-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x26 : Shape := ⟨2, ![4096, 26]⟩
abbrev S100000x8x16 : Shape := ⟨3, ![100000, 8, 16]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel

variable [Facts]

def fn {F : FTy → Type} [FloatOps F] (main_arg0 : IVec S4096x26 32) (main_arg1 : FVec F S100000x8x16 .f32) : IVec S_ 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 100000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  let main_c_1 : IVec S_ 1 := constantI S_ 1 1#1
  let main_v5 : IVec S_ 1 := (fun x v => Host.reduce IntOp.andi x v reducesTo_S4096x26_S_d0_1 h_S_) main_v4 main_c_1
  main_v5
-- ==== Kernel.lean ====
abbrev S4096x26 : Shape := ⟨2, ![4096, 26]⟩
abbrev S100000x8x16 : Shape := ⟨3, ![100000, 8, 16]⟩
abbrev S100000x128 : Shape := ⟨2, ![100000, 128]⟩
abbrev S1x106496 : Shape := ⟨2, ![1, 106496]⟩
abbrev S106496x128 : Shape := ⟨2, ![106496, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S106496x8x16 : Shape := ⟨3, ![106496, 8, 16]⟩
abbrev S2x32x128 : Shape := ⟨3, ![2, 32, 128]⟩
abbrev S2x32x8x16 : Shape := ⟨4, ![2, 32, 8, 16]⟩
abbrev S1x32x128 : Shape := ⟨3, ![1, 32, 128]⟩
abbrev S32x128 : Shape := ⟨2, ![32, 128]⟩
abbrev S1x16 : Shape := ⟨2, ![1, 16]⟩
abbrev S16 : Shape := ⟨1, ![16]⟩
abbrev S1x32x8x16 : Shape := ⟨4, ![1, 32, 8, 16]⟩
abbrev S32x8x16 : Shape := ⟨3, ![32, 8, 16]⟩
abbrev S256x16 : Shape := ⟨2, ![256, 16]⟩
abbrev S4096x26x8x16 : Shape := ⟨4, ![4096, 26, 8, 16]⟩

abbrev nBuf : Table → Nat
  | .hbm => 7
  | .local .scVector .vmem => 4
  | _ => 0

abbrev bufTy : (tb : Table) → Fin (nBuf tb) → BufTy
  | .hbm, ⟨0, _⟩ => ⟨S4096x26, .i32⟩
  | .hbm, ⟨1, _⟩ => ⟨S100000x8x16, .f32⟩
  | .hbm, ⟨2, _⟩ => ⟨S100000x128, .f32⟩
  | .hbm, ⟨3, _⟩ => ⟨S1x106496, .i32⟩
  | .hbm, ⟨4, _⟩ => ⟨S106496x128, .f32⟩
  | .hbm, ⟨5, _⟩ => ⟨S106496x8x16, .f32⟩
  | .hbm, ⟨6, _⟩ => ⟨S4096x26x8x16, .f32⟩
  | .local .scVector .vmem, ⟨0, _⟩ => ⟨S2x1x256, .i32⟩
  | .local .scVector .vmem, ⟨1, _⟩ => ⟨S2x256x128, .f32⟩
  | .local .scVector .vmem, ⟨2, _⟩ => ⟨S2x32x128, .f32⟩
  | .local .scVector .vmem, ⟨3, _⟩ => ⟨S2x32x8x16, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c13_i32_27_r0 : BitVec 32 := 13#32
  let v32_r0 : BitVec 32 := Scalar.addi c0_i32_26_r0 c13_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c12_i32_68_r0 : BitVec 32 := 12#32
  let v83_r0 : BitVec 1 := Scalar.cmpi .sge arg5_r0 c12_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c13_i32_62_r0 : BitVec 32 := 13#32
  let v74_r0 : BitVec 1 := Scalar.cmpi .eq v73_r0 c13_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c12_i32_55_r0 : BitVec 32 := 12#32
  let v65_r0 : BitVec 1 := Scalar.cmpi .eq arg5_r0 c12_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c12_i32_59_r0 : BitVec 32 := 12#32
  let v70_r0 : BitVec 32 := Scalar.select v69_r0 c12_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x106496.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x106496.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S106496x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S106496x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x106496.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x106496.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S106496x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S106496x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c12_i32_33_r0 : BitVec 32 := 12#32
  let v37_r0 : BitVec 32 := Scalar.select v36_r0 c12_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c13_i32 : BitVec 32 := 13#32
  let v4 : BitVec 32 := Scalar.muli v3 c13_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S106496x128.size a)
theorem k0_off19_inb : ∀ (i : grid0.Coords) (v33_4_r0 : BitVec 32) (k0_hw5 : k0_chk5 i v33_4_r0), ∀ a, (k0_off19 i v33_4_r0) a + S256x128.size a ≤ S106496x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c32_i32_r0 : BitVec 32 := 32#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v7_r0 : BitVec 32 := Scalar.addi c0_i32_1_r0 v4
  let v22_r0 : BitVec 32 := Scalar.muli c32_i32_r0 v7_r0
  let c0_i32_16_r0 : BitVec 32 := 0#32
  ![v22_r0.toNat, 0]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c104_i32_27_r0 : BitVec 32 := 104#32
  let v32_r0 : BitVec 32 := Scalar.addi c0_i32_26_r0 c104_i32_27_r0
  let c1_i32_28_r0 : BitVec 32 := 1#32
  ⟨c0_i32_26_r0, v32_r0, c1_i32_28_r0⟩
def k1_off4 (arg5_r0 : BitVec 32) : Fin 3 → Nat :=
  let c2_i32_105_r0 : BitVec 32 := 2#32
  let v145_r0 : BitVec 32 := Scalar.remui arg5_r0 c2_i32_105_r0
  let c0_i32_107_r0 : BitVec 32 := 0#32
  let c0_i32_108_r0 : BitVec 32 := 0#32
  ![v145_r0.toNat, 0, 0]
def k1_cond1 (i : grid1.Coords) (k1_t1 : Fin k1_t1_loop.trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg9_r0 v4
  let true_65_r0 : BitVec 1 := 1#1
  let c1_i32_64_r0 : BitVec 32 := 1#32
  let v72_r0 : BitVec 32 := Scalar.addi arg9_r0 c1_i32_64_r0
  let v73_r0 : BitVec 32 := Scalar.select true_65_r0 v72_r0 arg9_r0
  let c104_i32_66_r0 : BitVec 32 := 104#32
  let v74_r0 : BitVec 1 := Scalar.cmpi .eq v73_r0 c104_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg4_r0 : BitVec 32 := Scf.iv c0_i32_26_r0 c1_i32_28_r0 k1_t1
  let c103_i32_72_r0 : BitVec 32 := 103#32
  let v83_r0 : BitVec 1 := Scalar.cmpi .sge arg4_r0 c103_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k1_off5 (i : grid1.Coords) (arg9_r0 : BitVec 32) : Fin 2 → Nat :=
  let c32_i32_106_r0 : BitVec 32 := 32#32
  let true_65_r0 : BitVec 1 := 1#1
  let c1_i32_64_r0 : BitVec 32 := 1#32
  let v72_r0 : BitVec 32 := Scalar.addi arg9_r0 c1_i32_64_r0
  let v73_r0 : BitVec 32 := Scalar.select true_65_r0 v72_r0 arg9_r0
  let c104_i32_66_r0 : BitVec 32 := 104#32
  let v74_r0 : BitVec 1 := Scalar.cmpi .eq v73_r0 c104_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v76_r0 : BitVec 32 := Scalar.addi v75_r0 v4
  let v146_r0 : BitVec 32 := Scalar.muli c32_i32_106_r0 v76_r0
  let c0_i32_109_r0 : BitVec 32 := 0#32
  ![v146_r0.toNat, 0]
def k1_off6 (arg5_r0 : BitVec 32) : Fin 1 → Nat :=
  let c2_i32_105_r0 : BitVec 32 := 2#32
  let v145_r0 : BitVec 32 := Scalar.remui arg5_r0 c2_i32_105_r0
  ![v145_r0.toNat]
def k1_off7 (arg6_r0 : BitVec 32) : Fin 3 → Nat :=
  let c2_i32_106_r0 : BitVec 32 := 2#32
  let v146_r0 : BitVec 32 := Scalar.remui arg6_r0 c2_i32_106_r0
  let c0_i32_107_r0 : BitVec 32 := 0#32
  let c0_i32_108_r0 : BitVec 32 := 0#32
  ![v146_r0.toNat, 0, 0]
def k1_cond2 (i : grid1.Coords) (k1_t1 : Fin k1_t1_loop.trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg9_r0 v4
  let true_61_r0 : BitVec 1 := 1#1
  let c1_i32_60_r0 : BitVec 32 := 1#32
  let v67_r0 : BitVec 32 := Scalar.subi arg9_r0 c1_i32_60_r0
  let v68_r0 : BitVec 32 := Scalar.select true_61_r0 v67_r0 arg9_r0
  let c_m1_i32_62_r0 : BitVec 32 := 4294967295#32
  let v69_r0 : BitVec 1 := Scalar.cmpi .eq v68_r0 c_m1_i32_62_r0
  let c103_i32_63_r0 : BitVec 32 := 103#32
  let v70_r0 : BitVec 32 := Scalar.select v69_r0 c103_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg4_r0 : BitVec 32 := Scf.iv c0_i32_26_r0 c1_i32_28_r0 k1_t1
  let c0_i32_58_r0 : BitVec 32 := 0#32
  let v64_r0 : BitVec 1 := Scalar.cmpi .eq arg4_r0 c0_i32_58_r0
  let v97_r0 : BitVec 1 := Scalar.ori v96_r0 v64_r0
  let c0_i32_80_r0 : BitVec 32 := 0#32
  let v98_r0 : BitVec 1 := Scalar.cmpi .sge arg4_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k1_off8 (i : grid1.Coords) (arg9_r0 : BitVec 32) : Fin 2 → Nat :=
  let c32_i32_105_r0 : BitVec 32 := 32#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg9_r0 v4
  let v145_r0 : BitVec 32 := Scalar.muli c32_i32_105_r0 v66_r0
  let c0_i32_109_r0 : BitVec 32 := 0#32
  ![v145_r0.toNat, 0]
def k1_off9 (arg6_r0 : BitVec 32) : Fin 1 → Nat :=
  let c2_i32_106_r0 : BitVec 32 := 2#32
  let v146_r0 : BitVec 32 := Scalar.remui arg6_r0 c2_i32_106_r0
  ![v146_r0.toNat]
@[reducible] def k1_t2_loop : Scf.Loop 32 :=
  let c0_i32_86_r0 : BitVec 32 := 0#32
  let c8_i32_r0 : BitVec 32 := 8#32
  let v110_r0 : BitVec 32 := Scalar.addi c0_i32_86_r0 c8_i32_r0
  let c1_i32_87_r0 : BitVec 32 := 1#32
  ⟨c0_i32_86_r0, v110_r0, c1_i32_87_r0⟩
def k1_off10 (arg6_r0 : BitVec 32) : Fin 3 → Nat :=
  let c2_i32_84_r0 : BitVec 32 := 2#32
  let v108_r0 : BitVec 32 := Scalar.remui arg6_r0 c2_i32_84_r0
  let c0_i32_107_r0 : BitVec 32 := 0#32
  let c0_i32_108_r0 : BitVec 32 := 0#32
  ![v108_r0.toNat, 0, 0]

def k1_off11 (k1_t2 : Fin k1_t2_loop.trips) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let c0_i32_106_r0 : BitVec 32 := 0#32
  let v147_r0 : BitVec 32 := Scalar.addi v146_r0 c0_i32_106_r0
  let v150_r0 : Index := Scalar.indexCast v147_r0
  let c0_r0 : Index := 0#32
  ![v150_r0.toNat, 0]
def k1_off12 (arg7_r0 : BitVec 32) : Fin 4 → Nat :=
  let c2_i32_85_r0 : BitVec 32 := 2#32
  let v109_r0 : BitVec 32 := Scalar.remui arg7_r0 c2_i32_85_r0
  let c0_i32_112_r0 : BitVec 32 := 0#32
  let c0_i32_113_r0 : BitVec 32 := 0#32
  let c0_i32_114_r0 : BitVec 32 := 0#32
  ![v109_r0.toNat, 0, 0, 0]

def k1_chk3 (arg7_r0 : BitVec 32) : Prop :=
  (∀ a, (k1_off12 arg7_r0) a + S1x32x8x16.size a ≤ S2x32x8x16.size a) ∧
  (∀ (hinb : ∀ a, (k1_off12 arg7_r0) a + S1x32x8x16.size a ≤ S2x32x8x16.size a), (Rect.unit (s := S2x32x8x16) (k1_off12 arg7_r0) S1x32x8x16.size hinb).LeadingBlock)
theorem k1_off12_inb : ∀ (arg7_r0 : BitVec 32) (k1_hw3 : k1_chk3 arg7_r0), ∀ a, (k1_off12 arg7_r0) a + S1x32x8x16.size a ≤ S2x32x8x16.size a := fun arg7_r0 k1_hw3 => k1_hw3.1
theorem k1_off12_leadingf32 : ∀ (arg7_r0 : BitVec 32) (k1_hw3 : k1_chk3 arg7_r0), (Rect.unit (s := S2x32x8x16) (k1_off12 arg7_r0) S1x32x8x16.size (k1_off12_inb arg7_r0 k1_hw3)).LeadingBlock := fun arg7_r0 k1_hw3 => k1_hw3.2 (k1_off12_inb arg7_r0 k1_hw3)

def k1_off13 (k1_t2 : Fin k1_t2_loop.trips) (c0_i32_109_r0 : BitVec 32) (c0_i32_111_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v153_r0 : BitVec 32 := Scalar.addi v146_r0 c0_i32_109_r0
  let c8_i32_110_r0 : BitVec 32 := 8#32
  let v154_r0 : BitVec 32 := Scalar.muli v153_r0 c8_i32_110_r0
  let v155_r0 : BitVec 32 := Scalar.addi v154_r0 c0_i32_111_r0
  let v159_r0 : Index := Scalar.indexCast v155_r0
  let c0_115_r0 : Index := 0#32
  ![v159_r0.toNat, 0]
def k1_off14 (arg6_r0 : BitVec 32) : Fin 3 → Nat :=
  let c2_i32_84_r0 : BitVec 32 := 2#32
  let v108_r0 : BitVec 32 := Scalar.remui arg6_r0 c2_i32_84_r0
  let c0_i32_117_r0 : BitVec 32 := 0#32
  let c0_i32_118_r0 : BitVec 32 := 0#32
  ![v108_r0.toNat, 0, 0]

def k1_chk2 (arg6_r0 : BitVec 32) : Prop :=
  (∀ a, (k1_off10 arg6_r0) a + S1x32x128.size a ≤ S2x32x128.size a) ∧
  (∀ a, (k1_off14 arg6_r0) a + S1x32x128.size a ≤ S2x32x128.size a)
theorem k1_off10_inb : ∀ (arg6_r0 : BitVec 32) (k1_hw2 : k1_chk2 arg6_r0), ∀ a, (k1_off10 arg6_r0) a + S1x32x128.size a ≤ S2x32x128.size a := fun arg6_r0 k1_hw2 => k1_hw2.1
theorem k1_off14_inb : ∀ (arg6_r0 : BitVec 32) (k1_hw2 : k1_chk2 arg6_r0), ∀ a, (k1_off14 arg6_r0) a + S1x32x128.size a ≤ S2x32x128.size a := fun arg6_r0 k1_hw2 => k1_hw2.2

def k1_off15 (k1_t2 : Fin k1_t2_loop.trips) (c0_i32_116_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v163_r0 : BitVec 32 := Scalar.addi v146_r0 c0_i32_116_r0
  let v166_r0 : Index := Scalar.indexCast v163_r0
  let c16_r0 : Index := 16#32
  ![v166_r0.toNat, 16]
def k1_off16 (k1_t2 : Fin k1_t2_loop.trips) (c0_i32_126_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v179_r0 : BitVec 32 := Scalar.addi v146_r0 c0_i32_126_r0
  let v182_r0 : Index := Scalar.indexCast v179_r0
  let c32_r0 : Index := 32#32
  ![v182_r0.toNat, 32]
def k1_off17 (k1_t2 : Fin k1_t2_loop.trips) (c0_i32_136_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v195_r0 : BitVec 32 := Scalar.addi v146_r0 c0_i32_136_r0
  let v198_r0 : Index := Scalar.indexCast v195_r0
  let c48_r0 : Index := 48#32
  ![v198_r0.toNat, 48]
def k1_off18 (k1_t2 : Fin k1_t2_loop.trips) (c0_i32_145_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v211_r0 : BitVec 32 := Scalar.addi v146_r0 c0_i32_145_r0
  let v214_r0 : Index := Scalar.indexCast v211_r0
  let c64_r0 : Index := 64#32
  ![v214_r0.toNat, 64]
def k1_off19 (k1_t2 : Fin k1_t2_loop.trips) (c0_i32_155_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v227_r0 : BitVec 32 := Scalar.addi v146_r0 c0_i32_155_r0
  let v230_r0 : Index := Scalar.indexCast v227_r0
  let c80_r0 : Index := 80#32
  ![v230_r0.toNat, 80]
def k1_off20 (k1_t2 : Fin k1_t2_loop.trips) (c0_i32_164_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v243_r0 : BitVec 32 := Scalar.addi v146_r0 c0_i32_164_r0
  let v246_r0 : Index := Scalar.indexCast v243_r0
  let c96_r0 : Index := 96#32
  ![v246_r0.toNat, 96]
def k1_off21 (k1_t2 : Fin k1_t2_loop.trips) (c0_i32_173_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v259_r0 : BitVec 32 := Scalar.addi v146_r0 c0_i32_173_r0
  let v262_r0 : Index := Scalar.indexCast v259_r0
  let c112_r0 : Index := 112#32
  ![v262_r0.toNat, 112]
def k1_off22 (k1_t2 : Fin k1_t2_loop.trips) (c1_i32_182_r0 : BitVec 32) : Fin 2 → Nat :=
  let c0_i32_105_r0 : BitVec 32 := 0#32
  let c0_i32_86_r0 : BitVec 32 := 0#32
  let c1_i32_87_r0 : BitVec 32 := 1#32
  let arg10_r0 : BitVec 32 := Scf.iv c0_i32_86_r0 c1_i32_87_r0 k1_t2
  let c4_i32_r0 : BitVec 32 := 4#32
  let v145_r0 : BitVec 32 := Scalar.muli arg10_r0 c4_i32_r0
  let v146_r0 : BitVec 32 := Scalar.addi c0_i32_105_r0 v145_r0
  let v275_r0 : BitVec 32 := Scalar.addi v146_r0 c1_i32_182_r0
  let v278_r0 : Index := Scalar.indexCast v275_r0
  let c0_185_r0 : Index := 0#32
  ![v278_r0.toNat, 0]
def k1_off23 (arg7_r0 : BitVec 32) : Fin 4 → Nat :=
  let c2_i32_105_r0 : BitVec 32 := 2#32
  let v145_r0 : BitVec 32 := Scalar.remui arg7_r0 c2_i32_105_r0
  let c0_i32_107_r0 : BitVec 32 := 0#32
  let c0_i32_108_r0 : BitVec 32 := 0#32
  let c0_i32_109_r0 : BitVec 32 := 0#32
  ![v145_r0.toNat, 0, 0, 0]
def k1_cond5 (i : grid1.Coords) (k1_t1 : Fin k1_t1_loop.trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg9_r0 v4
  let true_65_r0 : BitVec 1 := 1#1
  let c1_i32_64_r0 : BitVec 32 := 1#32
  let v72_r0 : BitVec 32 := Scalar.addi arg9_r0 c1_i32_64_r0
  let v73_r0 : BitVec 32 := Scalar.select true_65_r0 v72_r0 arg9_r0
  let c104_i32_66_r0 : BitVec 32 := 104#32
  let v74_r0 : BitVec 1 := Scalar.cmpi .eq v73_r0 c104_i32_66_r0
  let c0_i32_67_r0 : BitVec 32 := 0#32
  let v75_r0 : BitVec 32 := Scalar.select v74_r0 c0_i32_67_r0 v73_r0
  let v76_r0 : BitVec 32 := Scalar.addi v75_r0 v4
  let v116_r0 : BitVec 1 := Scalar.cmpi .ne v66_r0 v76_r0
  let c0_i32_26_r0 : BitVec 32 := 0#32
  let c1_i32_28_r0 : BitVec 32 := 1#32
  let arg4_r0 : BitVec 32 := Scf.iv c0_i32_26_r0 c1_i32_28_r0 k1_t1
  let c103_i32_59_r0 : BitVec 32 := 103#32
  let v65_r0 : BitVec 1 := Scalar.cmpi .eq arg4_r0 c103_i32_59_r0
  let v117_r0 : BitVec 1 := Scalar.ori v116_r0 v65_r0
  let v118_r0 : BitVec 32 := Scalar.extui v117_r0
  let c0_i32_90_r0 : BitVec 32 := 0#32
  let v119_r0 : BitVec 1 := Scalar.cmpi .ne v118_r0 c0_i32_90_r0
  v119_r0

def k1_off24 (i : grid1.Coords) (arg9_r0 : BitVec 32) : Fin 3 → Nat :=
  let c32_i32_106_r0 : BitVec 32 := 32#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg9_r0 v4
  let v146_r0 : BitVec 32 := Scalar.muli c32_i32_106_r0 v66_r0
  let c0_i32_110_r0 : BitVec 32 := 0#32
  let c0_i32_111_r0 : BitVec 32 := 0#32
  ![v146_r0.toNat, 0, 0]
def k1_off25 (arg7_r0 : BitVec 32) : Fin 1 → Nat :=
  let c2_i32_105_r0 : BitVec 32 := 2#32
  let v145_r0 : BitVec 32 := Scalar.remui arg7_r0 c2_i32_105_r0
  ![v145_r0.toNat]
def k1_off26 (arg8_r0 : BitVec 32) : Fin 4 → Nat :=
  let c2_i32_105_r0 : BitVec 32 := 2#32
  let v145_r0 : BitVec 32 := Scalar.remui arg8_r0 c2_i32_105_r0
  let c0_i32_107_r0 : BitVec 32 := 0#32
  let c0_i32_108_r0 : BitVec 32 := 0#32
  let c0_i32_109_r0 : BitVec 32 := 0#32
  ![v145_r0.toNat, 0, 0, 0]
def k1_cond7 (i : grid1.Coords) (k1_t1 : Fin k1_t1_loop.trips) (arg9_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg9_r0 v4
  let true_61_r0 : BitVec 1 := 1#1
  let c1_i32_60_r0 : BitVec 32 := 1#32
  let v67_r0 : BitVec 32 := Scalar.subi arg9_r0 c1_i32_60_r0
  let v68_r0 : BitVec 32 := Scalar.select true_61_r0 v67_r0 arg9_r0
  let c_m1_i32_62_r0 : BitVec 32 := 4294967295#32
  let v69_r0 : BitVec 1 := Scalar.cmpi .eq v68_r0 c_m1_i32_62_r0
  let c103_i32_63_r0 : BitVec 32 := 103#32
  let v70_r0 : BitVec 32 := Scalar.select v69_r0 c103_i32_63_r0 v68_r0
  let v71_r0 : BitVec 32 := Scalar.addi v70_r0 v4
  let v129_r0 : BitVec 1 := Scalar.cmpi .ne v66_r0 v71_r0
  let c0_i32_26_r0 : BitVec 32 := 0#32
  let c1_i32_28_r0 : BitVec 32 := 1#32
  let arg4_r0 : BitVec 32 := Scf.iv c0_i32_26_r0 c1_i32_28_r0 k1_t1
  let c0_i32_58_r0 : BitVec 32 := 0#32
  let v64_r0 : BitVec 1 := Scalar.cmpi .eq arg4_r0 c0_i32_58_r0
  let true_96_r0 : BitVec 1 := 1#1
  let v130_r0 : BitVec 1 := Scalar.xori v64_r0 true_96_r0
  let v131_r0 : BitVec 1 := Scalar.andi v129_r0 v130_r0
  let v132_r0 : BitVec 32 := Scalar.extui v131_r0
  let c0_i32_97_r0 : BitVec 32 := 0#32
  let v133_r0 : BitVec 1 := Scalar.cmpi .ne v132_r0 c0_i32_97_r0
  v133_r0

def k1_off27 (i : grid1.Coords) (arg9_r0 : BitVec 32) : Fin 3 → Nat :=
  let c32_i32_106_r0 : BitVec 32 := 32#32
  let true_61_r0 : BitVec 1 := 1#1
  let c1_i32_60_r0 : BitVec 32 := 1#32
  let v67_r0 : BitVec 32 := Scalar.subi arg9_r0 c1_i32_60_r0
  let v68_r0 : BitVec 32 := Scalar.select true_61_r0 v67_r0 arg9_r0
  let c_m1_i32_62_r0 : BitVec 32 := 4294967295#32
  let v69_r0 : BitVec 1 := Scalar.cmpi .eq v68_r0 c_m1_i32_62_r0
  let c103_i32_63_r0 : BitVec 32 := 103#32
  let v70_r0 : BitVec 32 := Scalar.select v69_r0 c103_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v71_r0 : BitVec 32 := Scalar.addi v70_r0 v4
  let v146_r0 : BitVec 32 := Scalar.muli c32_i32_106_r0 v71_r0
  let c0_i32_110_r0 : BitVec 32 := 0#32
  let c0_i32_111_r0 : BitVec 32 := 0#32
  ![v146_r0.toNat, 0, 0]
def k1_off28 (arg8_r0 : BitVec 32) : Fin 1 → Nat :=
  let c2_i32_105_r0 : BitVec 32 := 2#32
  let v145_r0 : BitVec 32 := Scalar.remui arg8_r0 c2_i32_105_r0
  ![v145_r0.toNat]

def k1_chk1 (i : grid1.Coords) (k1_t1 : Fin k1_t1_loop.trips) (arg5_r0 : BitVec 32) (arg6_r0 : BitVec 32) (arg7_r0 : BitVec 32) (arg8_r0 : BitVec 32) (arg9_r0 : BitVec 32) : Prop :=
  (∀ (k1_h1 : k1_cond1 i k1_t1 arg9_r0 = 1#1), ∀ a, (k1_off4 arg5_r0) a + S1x32x128.size a ≤ S2x32x128.size a) ∧
  (∀ (k1_h1 : k1_cond1 i k1_t1 arg9_r0 = 1#1), ∀ a, (k1_off5 i arg9_r0) a + S32x128.size a ≤ S106496x128.size a) ∧
  (∀ (k1_h1 : k1_cond1 i k1_t1 arg9_r0 = 1#1), ∀ a, (k1_off6 arg5_r0) a + S1.size a ≤ S2.size a) ∧
  (∀ (k1_h2 : k1_cond2 i k1_t1 arg9_r0 = 1#1), ∀ a, (k1_off7 arg6_r0) a + S1x32x128.size a ≤ S2x32x128.size a) ∧
  (∀ (k1_h2 : k1_cond2 i k1_t1 arg9_r0 = 1#1), ∀ a, (k1_off8 i arg9_r0) a + S32x128.size a ≤ S106496x128.size a) ∧
  (∀ (k1_h2 : k1_cond2 i k1_t1 arg9_r0 = 1#1), ∀ a, (k1_off9 arg6_r0) a + S1.size a ≤ S2.size a) ∧
  (∀ (k1_h5 : k1_cond5 i k1_t1 arg9_r0 = 1#1), ∀ a, (k1_off23 arg7_r0) a + S1x32x8x16.size a ≤ S2x32x8x16.size a) ∧
  (∀ (k1_h5 : k1_cond5 i k1_t1 arg9_r0 = 1#1), ∀ a, (k1_off24 i arg9_r0) a + S32x8x16.size a ≤ S106496x8x16.size a) ∧
  (∀ (k1_h5 : k1_cond5 i k1_t1 arg9_r0 = 1#1), ∀ a, (k1_off25 arg7_r0) a + S1.size a ≤ S2.size a) ∧
  (∀ (k1_h7 : k1_cond7 i k1_t1 arg9_r0 = 1#1), ∀ a, (k1_off26 arg8_r0) a + S1x32x8x16.size a ≤ S2x32x8x16.size a) ∧
  (∀ (k1_h7 : k1_cond7 i k1_t1 arg9_r0 = 1#1), ∀ a, (k1_off27 i arg9_r0) a + S32x8x16.size a ≤ S106496x8x16.size a) ∧
  (∀ (k1_h7 : k1_cond7 i k1_t1 arg9_r0 = 1#1), ∀ a, (k1_off28 arg8_r0) a + S1.size a ≤ S2.size a)
theorem k1_off4_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h1 : k1_cond1 i k1_t1 arg9_r0 = 1#1), ∀ a, (k1_off4 arg5_r0) a + S1x32x128.size a ≤ S2x32x128.size a := fun i k1_t1 arg5_r0 arg6_r0 arg7_r0 arg8_r0 arg9_r0 k1_hw1 k1_h1 => k1_hw1.1 k1_h1
theorem k1_off5_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h1 : k1_cond1 i k1_t1 arg9_r0 = 1#1), ∀ a, (k1_off5 i arg9_r0) a + S32x128.size a ≤ S106496x128.size a := fun i k1_t1 arg5_r0 arg6_r0 arg7_r0 arg8_r0 arg9_r0 k1_hw1 k1_h1 => k1_hw1.2.1 k1_h1
theorem k1_off6_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h1 : k1_cond1 i k1_t1 arg9_r0 = 1#1), ∀ a, (k1_off6 arg5_r0) a + S1.size a ≤ S2.size a := fun i k1_t1 arg5_r0 arg6_r0 arg7_r0 arg8_r0 arg9_r0 k1_hw1 k1_h1 => k1_hw1.2.2.1 k1_h1
theorem k1_off7_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h2 : k1_cond2 i k1_t1 arg9_r0 = 1#1), ∀ a, (k1_off7 arg6_r0) a + S1x32x128.size a ≤ S2x32x128.size a := fun i k1_t1 arg5_r0 arg6_r0 arg7_r0 arg8_r0 arg9_r0 k1_hw1 k1_h2 => k1_hw1.2.2.2.1 k1_h2
theorem k1_off8_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h2 : k1_cond2 i k1_t1 arg9_r0 = 1#1), ∀ a, (k1_off8 i arg9_r0) a + S32x128.size a ≤ S106496x128.size a := fun i k1_t1 arg5_r0 arg6_r0 arg7_r0 arg8_r0 arg9_r0 k1_hw1 k1_h2 => k1_hw1.2.2.2.2.1 k1_h2
theorem k1_off9_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h2 : k1_cond2 i k1_t1 arg9_r0 = 1#1), ∀ a, (k1_off9 arg6_r0) a + S1.size a ≤ S2.size a := fun i k1_t1 arg5_r0 arg6_r0 arg7_r0 arg8_r0 arg9_r0 k1_hw1 k1_h2 => k1_hw1.2.2.2.2.2.1 k1_h2
theorem k1_off23_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h5 : k1_cond5 i k1_t1 arg9_r0 = 1#1), ∀ a, (k1_off23 arg7_r0) a + S1x32x8x16.size a ≤ S2x32x8x16.size a := fun i k1_t1 arg5_r0 arg6_r0 arg7_r0 arg8_r0 arg9_r0 k1_hw1 k1_h5 => k1_hw1.2.2.2.2.2.2.1 k1_h5
theorem k1_off24_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h5 : k1_cond5 i k1_t1 arg9_r0 = 1#1), ∀ a, (k1_off24 i arg9_r0) a + S32x8x16.size a ≤ S106496x8x16.size a := fun i k1_t1 arg5_r0 arg6_r0 arg7_r0 arg8_r0 arg9_r0 k1_hw1 k1_h5 => k1_hw1.2.2.2.2.2.2.2.1 k1_h5
theorem k1_off25_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h5 : k1_cond5 i k1_t1 arg9_r0 = 1#1), ∀ a, (k1_off25 arg7_r0) a + S1.size a ≤ S2.size a := fun i k1_t1 arg5_r0 arg6_r0 arg7_r0 arg8_r0 arg9_r0 k1_hw1 k1_h5 => k1_hw1.2.2.2.2.2.2.2.2.1 k1_h5
theorem k1_off26_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h7 : k1_cond7 i k1_t1 arg9_r0 = 1#1), ∀ a, (k1_off26 arg8_r0) a + S1x32x8x16.size a ≤ S2x32x8x16.size a := fun i k1_t1 arg5_r0 arg6_r0 arg7_r0 arg8_r0 arg9_r0 k1_hw1 k1_h7 => k1_hw1.2.2.2.2.2.2.2.2.2.1 k1_h7
theorem k1_off27_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h7 : k1_cond7 i k1_t1 arg9_r0 = 1#1), ∀ a, (k1_off27 i arg9_r0) a + S32x8x16.size a ≤ S106496x8x16.size a := fun i k1_t1 arg5_r0 arg6_r0 arg7_r0 arg8_r0 arg9_r0 k1_hw1 k1_h7 => k1_hw1.2.2.2.2.2.2.2.2.2.2.1 k1_h7
theorem k1_off28_inb : ∀ (i : grid1.Coords) (k1_t1 : Fin k1_t1_loop.trips) (arg5_r0 : BitVec 32) (arg6_r0 : BitVec 32) (arg7_r0 : BitVec 32) (arg8_r0 : BitVec 32) (arg9_r0 : BitVec 32) (k1_hw1 : k1_chk1 i k1_t1 arg5_r0 arg6_r0 arg7_r0 arg8_r0 arg9_r0), ∀ (k1_h7 : k1_cond7 i k1_t1 arg9_r0 = 1#1), ∀ a, (k1_off28 arg8_r0) a + S1.size a ≤ S2.size a := fun i k1_t1 arg5_r0 arg6_r0 arg7_r0 arg8_r0 arg9_r0 k1_hw1 k1_h7 => k1_hw1.2.2.2.2.2.2.2.2.2.2.2 k1_h7

def k1_off29 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k1_off30 (i : grid1.Coords) (v33_4_r0 : BitVec 32) : Fin 3 → Nat :=
  let c32_i32_47_r0 : BitVec 32 := 32#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c103_i32_33_r0 : BitVec 32 := 103#32
  let v37_r0 : BitVec 32 := Scalar.select v36_r0 c103_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v38_r0 : BitVec 32 := Scalar.addi v37_r0 v4
  let v55_r0 : BitVec 32 := Scalar.muli c32_i32_47_r0 v38_r0
  let c0_i32_51_r0 : BitVec 32 := 0#32
  let c0_i32_52_r0 : BitVec 32 := 0#32
  ![v55_r0.toNat, 0, 0]

def k1_chk5 (i : grid1.Coords) (v33_4_r0 : BitVec 32) : Prop :=
  (∀ a, (k1_off30 i v33_4_r0) a + S32x8x16.size a ≤ S106496x8x16.size a)
theorem k1_off30_inb : ∀ (i : grid1.Coords) (v33_4_r0 : BitVec 32) (k1_hw5 : k1_chk5 i v33_4_r0), ∀ a, (k1_off30 i v33_4_r0) a + S32x8x16.size a ≤ S106496x8x16.size a := fun i v33_4_r0 k1_hw5 => k1_hw5

def k1_off31 (v33_3_r0 : BitVec 32) : Fin 1 → Nat :=
  let c2_i32_46_r0 : BitVec 32 := 2#32
  let v54_r0 : BitVec 32 := Scalar.remui v33_3_r0 c2_i32_46_r0
  ![v54_r0.toNat]
def k1_off32 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k1_chk4 (v33_3_r0 : BitVec 32) : Prop :=
  (∀ a, (k1_off29 v33_3_r0) a + S1x32x8x16.size a ≤ S2x32x8x16.size a) ∧
  (∀ a, (k1_off31 v33_3_r0) a + S1.size a ≤ S2.size a) ∧
  (∀ a, (k1_off32 v33_3_r0) a + S1x32x8x16.size a ≤ S2x32x8x16.size a)
theorem k1_off29_inb : ∀ (v33_3_r0 : BitVec 32) (k1_hw4 : k1_chk4 v33_3_r0), ∀ a, (k1_off29 v33_3_r0) a + S1x32x8x16.size a ≤ S2x32x8x16.size a := fun v33_3_r0 k1_hw4 => k1_hw4.1
theorem k1_off31_inb : ∀ (v33_3_r0 : BitVec 32) (k1_hw4 : k1_chk4 v33_3_r0), ∀ a, (k1_off31 v33_3_r0) a + S1.size a ≤ S2.size a := fun v33_3_r0 k1_hw4 => k1_hw4.2.1
theorem k1_off32_inb : ∀ (v33_3_r0 : BitVec 32) (k1_hw4 : k1_chk4 v33_3_r0), ∀ a, (k1_off32 v33_3_r0) a + S1x32x8x16.size a ≤ S2x32x8x16.size a := fun v33_3_r0 k1_hw4 => k1_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S4096x26 : Shape := ⟨2, ![4096, 26]⟩
abbrev S100000x8x16 : Shape := ⟨3, ![100000, 8, 16]⟩
abbrev S106496 : Shape := ⟨1, ![106496]⟩
abbrev S_ : Shape := ⟨0, ![]⟩
abbrev S106496x1 : Shape := ⟨2, ![106496, 1]⟩
abbrev S1 : Shape := ⟨1, ![1]⟩
abbrev S1x1 : Shape := ⟨2, ![1, 1]⟩
abbrev S106496x8x16 : Shape := ⟨3, ![106496, 8, 16]⟩
abbrev S4096x26x8x16 : Shape := ⟨4, ![4096, 26, 8, 16]⟩

abbrev nBuf : Space → Nat
  | .hbm => 27
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S100000x8x16, .f32⟩
  | .hbm, ⟨2, _⟩ => ⟨S106496, .i32⟩
  | .hbm, ⟨3, _⟩ => ⟨S_, .i32⟩
  | .hbm, ⟨4, _⟩ => ⟨S106496, .i32⟩
  | .hbm, ⟨5, _⟩ => ⟨S106496, .i1⟩
  | .hbm, ⟨6, _⟩ => ⟨S_, .i32⟩
  | .hbm, ⟨7, _⟩ => ⟨S106496, .i32⟩
  | .hbm, ⟨8, _⟩ => ⟨S106496, .i32⟩
  | .hbm, ⟨9, _⟩ => ⟨S106496, .i32⟩
  | .hbm, ⟨10, _⟩ => ⟨S106496x1, .i32⟩
  | .hbm, ⟨11, _⟩ => ⟨S1, .i32⟩
  | .hbm, ⟨12, _⟩ => ⟨S_, .i32⟩
  | .hbm, ⟨13, _⟩ => ⟨S106496x1, .i32⟩
  | .hbm, ⟨14, _⟩ => ⟨S106496x1, .i1⟩
  | .hbm, ⟨15, _⟩ => ⟨S1x1, .i32⟩
  | .hbm, ⟨16, _⟩ => ⟨S106496x1, .i32⟩
  | .hbm, ⟨17, _⟩ => ⟨S106496x1, .i1⟩
  | .hbm, ⟨18, _⟩ => ⟨S106496x1, .i1⟩
  | .hbm, ⟨19, _⟩ => ⟨S_, .i1⟩
  | .hbm, ⟨20, _⟩ => ⟨S106496, .i1⟩
  | .hbm, ⟨21, _⟩ => ⟨S106496x8x16, .f32⟩
  | .hbm, ⟨22, _⟩ => ⟨S106496x8x16, .i1⟩
  | .hbm, ⟨23, _⟩ => ⟨S_, .f32⟩
  | .hbm, ⟨24, _⟩ => ⟨S106496x8x16, .f32⟩
  | .hbm, ⟨25, _⟩ => ⟨S106496x8x16, .f32⟩
  | .hbm, ⟨26, _⟩ => ⟨S4096x26x8x16, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Base.lean ====
/-
  What both SparseCore calls of the kernel share: the program as the launch theorem sees it, the ghost state, the arrays
  in the chip's memory, the value each intermediate array ends at, and the blocks of rows the pipelines move.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

/-- The resources every assertion of this proof is about. -/
abbrev MM (F : FTy → Type) : Type := MT nD τ sig (HIx 2) (Elt F) ℕ UU ℕ
local notation "𝕄" => MT nD τ sig (HIx 2) (Elt F) ℕ UU ℕ

abbrev EH : Emb UH (MT nD τ sig (HIx 2) (Elt F) ℕ UU ℕ) := embL

/-! ## The arrays -/

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-! ## The value each array ends at -/

/-- The table, its rows flat: 100000 rows of 128 lanes. -/
def V0 (d : Dev nD) : S100000x128.Idx → Elt F .f32 := shapeCast S100000x128 (m (a1Loc d)) shapeCasts_S100000x8x16_S100000x128
/-- The row numbers, in one row. -/
def V1 (d : Dev nD) : S1x106496.Idx → BitVec 32 := shapeCast S1x106496 (m (a0Loc d)) shapeCasts_S4096x26_S1x106496
/-- The gathered rows: row `r` is the table's row that the `r`-th number names. -/
def V2 (d : Dev nD) : S106496x128.Idx → Elt F .f32 := fun k =>
  V0 m d (ix2 ⟨(V1 m d (ix2 0 (k 0))).toNat % 100000, Nat.mod_lt _ (by omega)⟩ (k 1))
/-- The gathered rows, each cut in eight pieces of sixteen lanes. -/
def V3 (d : Dev nD) : S106496x8x16.Idx → Elt F .f32 := fun k =>
  V2 m d (ix2 (k 0) ⟨16 * (k 1).val + (k 2).val, by
    have h1 : (k 1).val < 8 := (k 1).isLt
    have h2 : (k 2).val < 16 := (k 2).isLt
    show 16 * (k 1).val + (k 2).val < 128; omega⟩)
/-- The result. -/
def V4 (d : Dev nD) : S4096x26x8x16.Idx → Elt F .f32 := shapeCast S4096x26x8x16 (V3 m d) shapeCasts_S106496x8x16_S4096x26x8x16

/-- What the proof asks of the launch memory: every row number is below 100000. -/
def PreOK : Prop := ∀ (d : Dev nD) (j : S4096x26.Idx), (m (a0Loc d) j).toNat < 100000

theorem V1_lt (h : PreOK m) (d : Dev nD) (j : S1x106496.Idx) : (V1 m d j).toNat < 100000 := h d _

/-! ## The blocks of rows -/

local notation "tV" => (Memref.whole Cert.KernelIdeal.main_v0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S1x106496 EltTy.i32)
local notation "gV" => (Memref.whole Cert.KernelIdeal.main_v2_scv : Memref Cert.KernelIdeal.sig Kind.scVector Space.hbm Cert.KernelIdeal.S106496x128 EltTy.f32)
local notation "oV" => (Memref.whole Cert.KernelIdeal.main_v3_scv : Memref Cert.KernelIdeal.sig Kind.scVector Space.hbm Cert.KernelIdeal.S106496x8x16 EltTy.f32)

theorem iBlk_inb (B : ℕ) : ∀ a, (![0, 256 * (B % 416)] : Fin 2 → ℕ) a + S1x256.size a ≤ S1x106496.size a
  | 0 => by show 0 + 1 ≤ 1; omega
  | 1 => by show 256 * (B % 416) + 256 ≤ 106496; omega
theorem gBlk_inb (B : ℕ) : ∀ a, (![256 * (B % 416), 0] : Fin 2 → ℕ) a + S256x128.size a ≤ S106496x128.size a
  | 0 => by show 256 * (B % 416) + 256 ≤ 106496; omega
  | 1 => by show 0 + 128 ≤ 128; omega
theorem fBlk_inb (B : ℕ) : ∀ a, (![32 * (B % 3328), 0] : Fin 2 → ℕ) a + S32x128.size a ≤ S106496x128.size a
  | 0 => by show 32 * (B % 3328) + 32 ≤ 106496; omega
  | 1 => by show 0 + 128 ≤ 128; omega
theorem oBlk_inb (B : ℕ) : ∀ a, (![32 * (B % 3328), 0, 0] : Fin 3 → ℕ) a + S32x8x16.size a ≤ S106496x8x16.size a
  | 0 => by show 32 * (B % 3328) + 32 ≤ 106496; omega
  | 1 => by show 0 + 8 ≤ 8; omega
  | 2 => by show 0 + 16 ≤ 16; omega

/-- Block `B` of the row numbers: 256 of them. -/
abbrev iBlk (B : ℕ) : Memref sig .scVector .hbm S1x256 .i32 := (iV).slice (Rect.unit (s := S1x106496) ![0, 256 * (B % 416)] S1x256.size (iBlk_inb B)) (fun _ => rfl)
/-- Block `B` of the gathered rows, as the first call writes them: 256 rows. -/
abbrev gBlk (B : ℕ) : Memref sig .scVector .hbm S256x128 .f32 := (gV).slice (Rect.unit (s := S106496x128) ![256 * (B % 416), 0] S256x128.size (gBlk_inb B)) (fun _ => rfl)
/-- Block `B` of the gathered rows, as the second call reads them: 32 rows. -/
abbrev fBlk (B : ℕ) : Memref sig .scVector .hbm S32x128 .f32 := (gV).slice (Rect.unit (s := S106496x128) ![32 * (B % 3328), 0] S32x128.size (fBlk_inb B)) (fun _ => rfl)
/-- Block `B` of the second call's result: 32 rows, each in eight pieces. -/
abbrev oBlk (B : ℕ) : Memref sig .scVector .hbm S32x8x16 .f32 := (oV).slice (Rect.unit (s := S106496x8x16) ![32 * (B % 3328), 0, 0] S32x8x16.size (oBlk_inb B)) (fun _ => rfl)

theorem iBlk_set (B : ℕ) : (iBlk B).view.set = (Rect.unit (s := S1x106496) ![0, 256 * (B % 416)] S1x256.size (iBlk_inb B)).set := by
  show ((View.whole (main_v1_scv : Ref sig .scVector)).slice _).set = _
  rw [View.set_slice]; exact Finset.map_refl
theorem gBlk_set (B : ℕ) : (gBlk B).view.set = (Rect.unit (s := S106496x128) ![256 * (B % 416), 0] S256x128.size (gBlk_inb B)).set := by
  show ((View.whole (main_v2_scv : Ref sig .scVector)).slice _).set = _
  rw [View.set_slice]; exact Finset.map_refl
theorem fBlk_set (B : ℕ) : (fBlk B).view.set = (Rect.unit (s := S106496x128) ![32 * (B % 3328), 0] S32x128.size (fBlk_inb B)).set := by
  show ((View.whole (main_v2_scv : Ref sig .scVector)).slice _).set = _
  rw [View.set_slice]; exact Finset.map_refl
theorem oBlk_set (B : ℕ) : (oBlk B).view.set = (Rect.unit (s := S106496x8x16) ![32 * (B % 3328), 0, 0] S32x8x16.size (oBlk_inb B)).set := by
  show ((View.whole (main_v3_scv : Ref sig .scVector)).slice _).set = _
  rw [View.set_slice]; exact Finset.map_refl

theorem mem_iBlk (B : ℕ) (k : S1x106496.Idx) : k ∈ (iBlk B).view.set ↔ 256 * (B % 416) ≤ (k 1).val ∧ (k 1).val < 256 * (B % 416) + 256 := by
  rw [iBlk_set, Rect.mem_set_unit, Fin.forall_fin_two]
  have h0 : (k 0).val < 1 := (k 0).isLt
  simp only [Matrix.cons_val_zero, Matrix.cons_val_one]
  show (0 ≤ (k 0).val ∧ (k 0).val < 0 + 1) ∧ (256 * (B % 416) ≤ (k 1).val ∧ (k 1).val < 256 * (B % 416) + 256) ↔ _
  omega
theorem mem_gBlk (B : ℕ) (k : S106496x128.Idx) : k ∈ (gBlk B).view.set ↔ 256 * (B % 416) ≤ (k 0).val ∧ (k 0).val < 256 * (B % 416) + 256 := by
  rw [gBlk_set, Rect.mem_set_unit, Fin.forall_fin_two]
  have h1 : (k 1).val < 128 := (k 1).isLt
  simp only [Matrix.cons_val_zero, Matrix.cons_val_one]
  show (256 * (B % 416) ≤ (k 0).val ∧ (k 0).val < 256 * (B % 416) + 256) ∧ (0 ≤ (k 1).val ∧ (k 1).val < 0 + 128) ↔ _
  omega
theorem mem_fBlk (B : ℕ) (k : S106496x128.Idx) : k ∈ (fBlk B).view.set ↔ 32 * (B % 3328) ≤ (k 0).val ∧ (k 0).val < 32 * (B % 3328) + 32 := by
  rw [fBlk_set, Rect.mem_set_unit, Fin.forall_fin_two]
  have h1 : (k 1).val < 128 := (k 1).isLt
  simp only [Matrix.cons_val_zero, Matrix.cons_val_one]
  show (32 * (B % 3328) ≤ (k 0).val ∧ (k 0).val < 32 * (B % 3328) + 32) ∧ (0 ≤ (k 1).val ∧ (k 1).val < 0 + 128) ↔ _
  omega
theorem mem_oBlk (B : ℕ) (k : S106496x8x16.Idx) : k ∈ (oBlk B).view.set ↔ 32 * (B % 3328) ≤ (k 0).val ∧ (k 0).val < 32 * (B % 3328) + 32 := by
  rw [oBlk_set, Rect.mem_set_unit]
  have h1 : (k 1).val < 8 := (k 1).isLt
  have h2 : (k 2).val < 16 := (k 2).isLt
  constructor
  · intro h; exact h 0
  · intro h a
    match a with
    | 0 => exact h
    | 1 => exact ⟨Nat.zero_le _, by show (k 1).val < 0 + 8; omega⟩
    | 2 => exact ⟨Nat.zero_le _, by show (k 2).val < 0 + 16; omega⟩

end Cert.Proof.Rows

end
-- ==== Proof.Pipe.lean ====
/-
  A two-slot pipeline between trips. A tile's loop of `n` trips works on blocks `0 … n - 1`: at the head of trip `t`
  block `t` is on its way into input slot `t`, the other input slot is free, output slot `t` is free, and block `t - 1`
  is on its way out of the other output slot. Slots and semaphores are named by any trip number of their parity.
-/
module

public import proofs.«01_k».proof.Proof.Base
public import Idealize.SL.BI.BigOpNat

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- A tile's pipeline: its thread, its number of blocks, the semaphores of its slots and what each transfer credits
    them; the input's block `t`, the output's block `t` before and after; the input slot holding block `t`, and the
    slots at any contents. -/
structure Line (F : FTy → Type) where
  thr : Thread nD τ
  n : ℕ
  inS : ℕ → DmaSem sig
  outS : ℕ → DmaSem sig
  nIn : ℕ
  nOut : ℕ
  bi : ℕ → sProp (MT nD τ sig (HIx 2) (Elt F) ℕ UU ℕ)
  bo0 : ℕ → sProp (MT nD τ sig (HIx 2) (Elt F) ℕ UU ℕ)
  bo1 : ℕ → sProp (MT nD τ sig (HIx 2) (Elt F) ℕ UU ℕ)
  si : ℕ → sProp (MT nD τ sig (HIx 2) (Elt F) ℕ UU ℕ)
  si0 : ℕ → sProp (MT nD τ sig (HIx 2) (Elt F) ℕ UU ℕ)
  so0 : ℕ → sProp (MT nD τ sig (HIx 2) (Elt F) ℕ UU ℕ)

namespace Line

variable (L : Line F)

/-- Input slot `t` is free, and nothing is on its way into it. -/
def inFree (t : ℕ) : sProp 𝕄 := iprop(L.si0 t ∗ semVal (L.thr, .dma (L.inS t)) 0)
/-- Output slot `t` is free, and nothing is on its way out of it. -/
def outFree (t : ℕ) : sProp 𝕄 := iprop(L.so0 t ∗ semVal (L.thr, .dma (L.outS t)) 0)
/-- Block `t` on its way into its slot. -/
def inGo (t : ℕ) : sProp 𝕄 := Transfers.Flight countersEmb L.thr (.dma (L.inS t)) (default : HIx 2) L.nIn iprop(L.si t ∗ L.bi t)
/-- Block `t` on its way out of its slot. -/
def outGo (t : ℕ) : sProp 𝕄 := Transfers.Flight countersEmb L.thr (.dma (L.outS t)) (default : HIx 2) L.nOut iprop(L.bo1 t ∗ L.so0 t)
/-- Input slot `t` at the head of trip `t`: block `t` is on its way; past the last block it is free. -/
def inFl (t : ℕ) : sProp 𝕄 := if t < L.n then L.inGo t else L.inFree t
/-- The other output slot at the head of trip `t`: block `t - 1` is on its way; before the first trip it is free. -/
def outFl (t : ℕ) : sProp 𝕄 := if 0 < t then L.outGo (t - 1) else L.outFree (t + 1)
/-- The input's blocks but block `t`. -/
def ins (t : ℕ) : sProp 𝕄 := bigSep ((Finset.range L.n).erase t) L.bi
/-- The input's blocks but blocks `t` and `t + 1`. -/
def insMid (t : ℕ) : sProp 𝕄 := bigSep (((Finset.range L.n).erase t).erase (t + 1)) L.bi
/-- The output's blocks from block `t` on, not yet written. -/
def outs0 (t : ℕ) : sProp 𝕄 := bigSep (Finset.Ico t L.n) L.bo0
/-- The output's blocks before block `t - 1`, written. -/
def outs1 (t : ℕ) : sProp 𝕄 := bigSep (Finset.range (t - 1)) L.bo1
/-- The pipeline at the head of trip `t`. -/
def state (t : ℕ) : sProp 𝕄 :=
  iprop(L.inFl t ∗ L.inFree (t + 1) ∗ L.outFree t ∗ L.outFl t ∗ L.ins t ∗ L.outs0 t ∗ L.outs1 t)

variable {L}

theorem inFree_open {t : ℕ} : L.inFree t ⊢ iprop(L.si0 t ∗ semVal (L.thr, .dma (L.inS t)) 0) := .rfl
theorem inFree_close {t : ℕ} : iprop(L.si0 t ∗ semVal (L.thr, .dma (L.inS t)) 0) ⊢ L.inFree t := .rfl
theorem outFree_open {t : ℕ} : L.outFree t ⊢ iprop(L.so0 t ∗ semVal (L.thr, .dma (L.outS t)) 0) := .rfl
theorem outFree_close {t : ℕ} : iprop(L.so0 t ∗ semVal (L.thr, .dma (L.outS t)) 0) ⊢ L.outFree t := .rfl
theorem inFl_of_lt {t : ℕ} (h : t < L.n) : L.inFl t = L.inGo t := if_pos h
theorem inFl_of_le {t : ℕ} (h : ¬ t < L.n) : L.inFl t = L.inFree t := if_neg h
theorem outFl_of_pos {t : ℕ} (h : 0 < t) : L.outFl t = L.outGo (t - 1) := if_pos h
theorem outFl_zero : L.outFl 0 = L.outFree 1 := if_neg (by omega)
theorem outFl_succ (t : ℕ) : L.outFl (t + 1) = L.outGo t := if_pos (Nat.succ_pos t)

theorem ins_take {t : ℕ} (h : t + 1 < L.n) : L.ins t = iprop(L.bi (t + 1) ∗ L.insMid t) :=
  SparseCore.bigSep_erase' (Finset.mem_erase.mpr ⟨by omega, Finset.mem_range.mpr h⟩)
theorem ins_end {t : ℕ} (h : ¬ t + 1 < L.n) : L.ins t = L.insMid t := by
  unfold ins insMid
  rw [Finset.erase_eq_of_notMem (a := t + 1) (s := (Finset.range L.n).erase t) (by simp only [Finset.mem_erase, Finset.mem_range]; omega)]
theorem ins_put {t : ℕ} (h : t < L.n) : L.ins (t + 1) = iprop(L.bi t ∗ L.insMid t) := by
  unfold ins insMid
  rw [Finset.erase_right_comm]
  exact SparseCore.bigSep_erase' (Finset.mem_erase.mpr ⟨by omega, Finset.mem_range.mpr h⟩)
theorem ins_first (h : 0 < L.n) : bigSep (Finset.range L.n) L.bi = iprop(L.bi 0 ∗ L.ins 0) :=
  SparseCore.bigSep_erase' (Finset.mem_range.mpr h)
theorem ins_last : L.ins L.n = bigSep (Finset.range L.n) L.bi := by
  unfold ins; rw [Finset.erase_eq_of_notMem (by simp)]
theorem outs0_first : L.outs0 0 = bigSep (Finset.range L.n) L.bo0 := by
  unfold outs0; rw [Finset.range_eq_Ico]
theorem outs0_take {t : ℕ} (h : t < L.n) : L.outs0 t = iprop(L.bo0 t ∗ L.outs0 (t + 1)) := by
  unfold outs0
  rw [show Finset.Ico t L.n = insert t (Finset.Ico (t + 1) L.n) from (Finset.insert_Ico_add_one_left_eq_Ico h).symm]
  exact SparseCore.bigSep_insert' (by simp)
theorem outs1_one : L.outs1 1 = L.outs1 0 := rfl
theorem outs1_put {t : ℕ} (h : 0 < t) : L.outs1 (t + 1) = iprop(L.bo1 (t - 1) ∗ L.outs1 t) := by
  unfold outs1
  rw [show t + 1 - 1 = (t - 1) + 1 by omega]
  exact bigSep_range_succ _ _
theorem outs1_zero : L.outs1 0 = (iprop(emp) : sProp 𝕄) := by
  unfold outs1; rw [Finset.range_zero, bigSep_empty]; rfl

end Line

end Cert.Proof.Rows

end
-- ==== Proof.Offs0.lean ====
/-
  The first call's loop variables in closed form: what trip `t` of a tile's loop carries, which of its branches are
  taken, and which slot, semaphore and block each of its operations names.
-/
module

public import proofs.«01_k».proof.Proof.Base

@[expose] public section

set_option maxRecDepth 65536

namespace Cert.Proof.Rows

open Cert.KernelIdeal Cert.KernelIdeal.Gen
open Idealize.ShloMosaic

/-! ## What a pipeline's loop carries into trip `t` of `n` -/

/-- The number of input blocks asked for. -/
def aNext (n t : ℕ) : BitVec 32 := BitVec.ofNat 32 (min (t + 1) n)
/-- The number of blocks worked on: it names the input slot and the output slot of the trip. -/
def aCur (t : ℕ) : BitVec 32 := BitVec.ofNat 32 t
/-- The number of output blocks waited for. -/
def aBack (t : ℕ) : BitVec 32 := BitVec.ofNat 32 (t - 1)
/-- The block's number within the tile. -/
def aPos (n t : ℕ) : BitVec 32 := BitVec.ofNat 32 (t % n)

/-- Block `t` of the tile at `i`, numbered over the whole array. -/
def w0 (i : grid0.Coords) (t : ℕ) : ℕ := 13 * ((i 1).val + 16 * (i 0).val) + t

theorem k0_trips : k0_t1_loop.trips = 13 := by decide +kernel

/-! ## The branches -/

theorem k0_cond1_iff : ∀ (i : grid0.Coords) (t : Fin k0_t1_loop.trips), k0_cond1 i t (aPos 13 t) = 1#1 ↔ t.val + 1 < 13 := by decide +kernel
theorem k0_cond2_eq : ∀ (i : grid0.Coords) (t : Fin k0_t1_loop.trips), k0_cond2 i t (aPos 13 t) = 1#1 := by decide +kernel
theorem k0_cond5_eq : ∀ (i : grid0.Coords) (t : Fin k0_t1_loop.trips), k0_cond5 i t (aPos 13 t) = 1#1 := by decide +kernel
theorem k0_cond7_iff : ∀ (i : grid0.Coords) (t : Fin k0_t1_loop.trips), k0_cond7 i t (aPos 13 t) = 1#1 ↔ 0 < t.val := by decide +kernel

theorem k0_chk1_ok : ∀ (i : grid0.Coords) (t : Fin k0_t1_loop.trips), k0_chk1 i t (aNext 13 t) (aCur t) (aCur t) (aBack t) (aPos 13 t) := by decide +kernel
theorem k0_chk2_ok : ∀ (t : Fin k0_t1_loop.trips), k0_chk2 (aCur t) := by decide +kernel
theorem k0_chk3_ok : ∀ (t : Fin k0_t1_loop.trips), k0_chk3 (aCur t) := by decide +kernel
theorem k0_chk4_ok : k0_chk4 (aBack 13) := by decide +kernel
theorem k0_chk5_ok : ∀ (i : grid0.Coords), k0_chk5 i (aPos 13 13) := by decide +kernel

/-! ## The first fetch -/

theorem k0_off1_at : k0_off1 = ![0 % 2, 0, 0] := by decide +kernel
theorem k0_off2_at : ∀ (i : grid0.Coords), k0_off2 i = ![0, 256 * (w0 i 0 % 416)] := by decide +kernel
theorem k0_off3_at : k0_off3 = ![0 % 2] := by decide +kernel

/-! ## The next block's fetch -/

theorem k0_off4_at : ∀ (t : Fin k0_t1_loop.trips), t.val + 1 < 13 → k0_off4 (aNext 13 t) = ![(t.val + 1) % 2, 0, 0] := by decide +kernel
theorem k0_off5_at : ∀ (i : grid0.Coords) (t : Fin k0_t1_loop.trips), t.val + 1 < 13 → k0_off5 i (aPos 13 t) = ![0, 256 * (w0 i (t.val + 1) % 416)] := by decide +kernel
theorem k0_off6_at : ∀ (t : Fin k0_t1_loop.trips), t.val + 1 < 13 → k0_off6 (aNext 13 t) = ![(t.val + 1) % 2] := by decide +kernel

/-! ## This block's wait -/

theorem k0_off7_at : ∀ (t : Fin k0_t1_loop.trips), k0_off7 (aCur t) = ![t.val % 2, 0, 0] := by decide +kernel
theorem k0_off8_at : ∀ (i : grid0.Coords) (t : Fin k0_t1_loop.trips), k0_off8 i (aPos 13 t) = ![0, 256 * (w0 i t.val % 416)] := by decide +kernel
theorem k0_off9_at : ∀ (t : Fin k0_t1_loop.trips), k0_off9 (aCur t) = ![t.val % 2] := by decide +kernel

/-! ## The gather -/

theorem k0_off10_at : ∀ (t : Fin k0_t1_loop.trips), k0_off10 (aCur t) = ![t.val % 2, 0, 0] := by decide +kernel
theorem k0_off11_at : ∀ (t : Fin k0_t1_loop.trips), k0_off11 (aCur t) = ![t.val % 2, 0, 0] := by decide +kernel

/-! ## The block's write -/

theorem k0_off12_at : ∀ (t : Fin k0_t1_loop.trips), k0_off12 (aCur t) = ![t.val % 2, 0, 0] := by decide +kernel
theorem k0_off13_at : ∀ (i : grid0.Coords) (t : Fin k0_t1_loop.trips), k0_off13 i (aPos 13 t) = ![256 * (w0 i t.val % 416), 0] := by decide +kernel
theorem k0_off14_at : ∀ (t : Fin k0_t1_loop.trips), k0_off14 (aCur t) = ![t.val % 2] := by decide +kernel

/-! ## The wait for the block before -/

theorem k0_off15_at : ∀ (t : Fin k0_t1_loop.trips), 0 < t.val → k0_off15 (aBack t) = ![(t.val + 1) % 2, 0, 0] := by decide +kernel
theorem k0_off16_at : ∀ (i : grid0.Coords) (t : Fin k0_t1_loop.trips), 0 < t.val → k0_off16 i (aPos 13 t) = ![256 * (w0 i (t.val - 1) % 416), 0] := by decide +kernel
theorem k0_off17_at : ∀ (t : Fin k0_t1_loop.trips), 0 < t.val → k0_off17 (aBack t) = ![(t.val + 1) % 2] := by decide +kernel

/-! ## The last wait -/

theorem k0_off19_at : ∀ (i : grid0.Coords), k0_off19 i (aPos 13 13) = ![256 * (w0 i 12 % 416), 0] := by decide +kernel
theorem k0_off20_at : k0_off20 (aBack 13) = ![12 % 2] := by decide +kernel
theorem k0_off21_at : k0_off21 (aBack 13) = ![12 % 2, 0, 0] := by decide +kernel

end Cert.Proof.Rows
-- ==== Proof.Steps0.lean ====
/-
  The first call's operations, each at the slot, semaphore and block it names: the fetch of a block of row numbers, the
  gather of the rows it names, the block's write.
-/
module

public import proofs.«01_k».proof.Proof.Pipe
public import proofs.«01_k».proof.Proof.Offs0

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ
local notation "tV" => (Memref.whole Cert.KernelIdeal.main_v0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S1x106496 EltTy.i32)
local notation "gV" => (Memref.whole Cert.KernelIdeal.main_v2_scv : Memref Cert.KernelIdeal.sig Kind.scVector Space.hbm Cert.KernelIdeal.S106496x128 EltTy.f32)
local notation "aV" => (Memref.whole Cert.KernelIdeal.cc0_scoped0 : Memref Cert.KernelIdeal.sig Kind.scVector Space.vmem Cert.KernelIdeal.S2x1x256 EltTy.i32)
local notation "bV" => (Memref.whole Cert.KernelIdeal.cc0_scoped2 : Memref Cert.KernelIdeal.sig Kind.scVector Space.vmem Cert.KernelIdeal.S2x256x128 EltTy.f32)

/-! ## The slots -/

theorem sem_inb (t : ℕ) : ∀ a, (![t % 2] : Fin 1 → ℕ) a + S1.size a ≤ S2.size a
  | 0 => by show t % 2 + 1 ≤ 2; omega
theorem a0_inb (t : ℕ) : ∀ a, (![t % 2, 0, 0] : Fin 3 → ℕ) a + S1x1x256.size a ≤ S2x1x256.size a
  | 0 => by show t % 2 + 1 ≤ 2; omega
  | 1 => by show 0 + 1 ≤ 1; omega
  | 2 => by show 0 + 256 ≤ 256; omega
theorem b0_inb (t : ℕ) : ∀ a, (![t % 2, 0, 0] : Fin 3 → ℕ) a + S1x256x128.size a ≤ S2x256x128.size a
  | 0 => by show t % 2 + 1 ≤ 2; omega
  | 1 => by show 0 + 256 ≤ 256; omega
  | 2 => by show 0 + 128 ≤ 128; omega

/-- The semaphore of slot `t` in an array of two. -/
abbrev semAt (s : DmaSems sig S2) (t : ℕ) : DmaSem sig := ((s.slice (Rect.unit (s := S2) ![t % 2] S1.size (sem_inb t))).squeeze S_ squeezes_S1_S_).sem
/-- Input slot `t`: 256 row numbers. -/
abbrev aSl (t : ℕ) : Memref sig .scVector .vmem S1x256 .i32 :=
  ((aV).slice (Rect.unit (s := S2x1x256) ![t % 2, 0, 0] S1x1x256.size (a0_inb t)) (fun _ => rfl)).squeeze S1x256 squeezes_S1x1x256_S1x256
/-- Output slot `t`: 256 rows. -/
abbrev bSl (t : ℕ) : Memref sig .scVector .vmem S256x128 .f32 :=
  ((bV).slice (Rect.unit (s := S2x256x128) ![t % 2, 0, 0] S1x256x128.size (b0_inb t)) (fun _ => rfl)).squeeze S256x128 squeezes_S1x256x128_S256x128

theorem aSl_emb (t : ℕ) (x : S1x256.Idx) : (aSl t).view.emb x = ix3 (n0 := 2) (n1 := 1) (n2 := 256) ⟨t % 2, by omega⟩ 0 (x 1) := by
  have e : Shape.reshapeEquiv squeezes_S1x1x256_S1x256.numel_eq x = ix3 (n0 := 1) (n1 := 1) (n2 := 256) 0 0 (x 1) :=
    Shape.reshapeEquiv_eq_of_rowMajor _ (by
      have h0 : (x 0).val < 1 := (x 0).isLt
      rw [Shape.rowMajor_val_three, Shape.rowMajor_val_two]
      show (0 * 1 + 0) * 256 + (x 1).val = (x 0).val * 256 + (x 1).val
      omega)
  show (Rect.unit (s := S2x1x256) ![t % 2, 0, 0] S1x1x256.size (a0_inb t)).emb (Shape.reshapeEquiv _ x) = _
  rw [e]
  funext a
  apply Fin.ext
  match a with
  | 0 => show t % 2 + 1 * 0 = t % 2; omega
  | 1 => show 0 + 1 * 0 = 0; omega
  | 2 => show 0 + 1 * (x 1).val = (x 1).val; omega

theorem bSl_emb (t : ℕ) (x : S256x128.Idx) : (bSl t).view.emb x = ix3 (n0 := 2) (n1 := 256) (n2 := 128) ⟨t % 2, by omega⟩ (x 0) (x 1) := by
  have e : Shape.reshapeEquiv squeezes_S1x256x128_S256x128.numel_eq x = ix3 (n0 := 1) (n1 := 256) (n2 := 128) 0 (x 0) (x 1) :=
    Shape.reshapeEquiv_eq_of_rowMajor _ (by
      rw [Shape.rowMajor_val_three, Shape.rowMajor_val_two]
      show (0 * 256 + (x 0).val) * 128 + (x 1).val = (x 0).val * 128 + (x 1).val
      omega)
  show (Rect.unit (s := S2x256x128) ![t % 2, 0, 0] S1x256x128.size (b0_inb t)).emb (Shape.reshapeEquiv _ x) = _
  rw [e]
  funext a
  apply Fin.ext
  match a with
  | 0 => show t % 2 + 1 * 0 = t % 2; omega
  | 1 => show 0 + 1 * (x 0).val = (x 0).val; omega
  | 2 => show 0 + 1 * (x 1).val = (x 1).val; omega

theorem iBlk_emb (B : ℕ) (x : S1x256.Idx) : (iBlk B).view.emb x = ix2 (n0 := 1) (n1 := 106496) 0 ⟨256 * (B % 416) + (x 1).val, by
    have : (x 1).val < 256 := (x 1).isLt
    omega⟩ := by
  have h0 : (x 0).val < 1 := (x 0).isLt
  show (Rect.unit (s := S1x106496) ![0, 256 * (B % 416)] S1x256.size (iBlk_inb B)).emb x = _
  funext a
  apply Fin.ext
  match a with
  | 0 => show 0 + 1 * (x 0).val = 0; omega
  | 1 => show 256 * (B % 416) + 1 * (x 1).val = 256 * (B % 416) + (x 1).val; omega

theorem gBlk_emb (B : ℕ) (x : S256x128.Idx) : (gBlk B).view.emb x = ix2 (n0 := 106496) (n1 := 128) ⟨256 * (B % 416) + (x 0).val, by
    have : (x 0).val < 256 := (x 0).isLt
    omega⟩ (x 1) := by
  show (Rect.unit (s := S106496x128) ![256 * (B % 416), 0] S256x128.size (gBlk_inb B)).emb x = _
  funext a
  apply Fin.ext
  match a with
  | 0 => show 256 * (B % 416) + 1 * (x 0).val = 256 * (B % 416) + (x 0).val; omega
  | 1 => show 0 + 1 * (x 1).val = (x 1).val; omega

variable (m : (ℓ : Loc nD τ sig) → Buf (Elt F) ℓ) (d : Dev nD) (i : grid0.Coords)

/-! ## What the slots hold -/

/-- The tile's thread. -/
abbrev thr0 : Thread nD τ := V d ((i 0).castLE hcore0) ((i 1).castLE hsub0)

/-- The row numbers of block `B`, as a slot of the input buffer holds them. -/
def aVal (B : ℕ) : S2x1x256.Idx → BitVec 32 := fun j => V1 m d (ix2 0 ⟨256 * (B % 416) + (j 2).val, by
  have : (j 2).val < 256 := (j 2).isLt
  omega⟩)
/-- The gathered rows of block `B`, as a slot of the output buffer holds them. -/
def bVal (B : ℕ) : S2x256x128.Idx → Elt F .f32 := fun j => V2 m d (ix2 ⟨256 * (B % 416) + (j 1).val, by
  have : (j 1).val < 256 := (j 1).isLt
  omega⟩ (j 2))

/-- The tile's pipeline in the first call. -/
def L0 : Line F where
  thr := thr0 d i
  n := 13
  inS := semAt cc0_scoped1
  outS := semAt cc0_scoped3
  nIn := (aSl 0).view.dmaCredit
  nOut := (gBlk 0).view.dmaCredit
  bi t := iprop((iBlk (w0 i t)).view.loc (thr0 d i) ↦[(iBlk (w0 i t)).view.set]{fullShare} V1 m d)
  bo0 t := iprop(∃ f, (gBlk (w0 i t)).view.loc (thr0 d i) ↦[(gBlk (w0 i t)).view.set]{fullShare} f)
  bo1 t := iprop((gBlk (w0 i t)).view.loc (thr0 d i) ↦[(gBlk (w0 i t)).view.set]{fullShare} V2 m d)
  si t := iprop((aSl t).view.loc (thr0 d i) ↦[(aSl t).view.set]{fullShare} aVal m d (w0 i t))
  si0 t := iprop(∃ f, (aSl t).view.loc (thr0 d i) ↦[(aSl t).view.set]{fullShare} f)
  so0 t := iprop(∃ f, (bSl t).view.loc (thr0 d i) ↦[(bSl t).view.set]{fullShare} f)

/-- Output slot `t` holding block `t`'s rows. -/
def so0 (t : ℕ) : sProp 𝕄 := iprop((bSl t).view.loc (thr0 d i) ↦[(bSl t).view.set]{fullShare} bVal m d (w0 i t))

/-- A fetched block is in its slot. -/
theorem a_write (t B : ℕ) (f : Buf (Elt F) ((aSl t).view.loc (thr0 d i))) : ∀ j ∈ (aSl t).view.set,
    (aSl t).view.write (Elt F) f ((iBlk B).view.read (Elt F) (V1 m d)) Finset.univ j = aVal m d B j := by
  intro j hj
  obtain ⟨x, -, rfl⟩ := Finset.mem_map.mp hj
  rw [View.write_emb_of_mem (h := Finset.mem_univ x), View.read_apply, iBlk_emb]
  refine (cast_eq _ _).trans ((cast_eq _ _).trans ?_)
  unfold aVal
  rw [aSl_emb]
  rfl
/-- A written block holds its slot's rows. -/
theorem g_write (t B : ℕ) (f : Buf (Elt F) ((gBlk B).view.loc (thr0 d i))) : ∀ j ∈ (gBlk B).view.set,
    (gBlk B).view.write (Elt F) f ((bSl t).view.read (Elt F) (bVal m d B)) Finset.univ j = V2 m d j := by
  intro j hj
  obtain ⟨x, -, rfl⟩ := Finset.mem_map.mp hj
  rw [View.write_emb_of_mem (h := Finset.mem_univ x), View.read_apply, gBlk_emb]
  refine (cast_eq _ _).trans ((cast_eq _ _).trans ?_)
  rw [bSl_emb]
  rfl

/-! ## The steps -/

section Steps

variable [FloatOps F] {defs : Defs nD τ sig (Elt F) Λ₀} {α : Type} {Q : α → sProp (MT nD τ sig (HIx 2) (Elt F) ℕ UU ℕ)}

/-- A copy within the chip, its semaphore at zero: in flight, to be found at its wait as `g` where it landed. -/
theorem copy_step (c : Thread nD τ) {sp sp' : Space} {s : Shape} {e : EltTy} {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ₀ c.2) α} {q : PosShare TreeShare} {fs : Buf (Elt F) (src.view.loc c)} {fd g : Buf (Elt F) (dst.view.loc c)}
    (N : ℕ) (hN : dst.view.dmaCredit = N) (hs : 0 < s.numel)
    (hg : ∀ j ∈ dst.view.set, dst.view.write (Elt F) fd (src.view.read (Elt F) fs) Finset.univ j = g j) :
    iprop((src.view.loc c ↦[src.view.set]{q} fs) ∗ (dst.view.loc c ↦[dst.view.set]{fullShare} fd) ∗ semVal (c, .dma sm) 0)
      ⊢ iprop((Transfers.Flight countersEmb c (.dma sm) (default : HIx 2) N iprop((dst.view.loc c ↦[dst.view.set]{fullShare} g) ∗ (src.view.loc c ↦[src.view.set]{q} fs))
              -∗ wp frame (wpE defs 𝒱₀ c none) Set.univ (k ⟨⟩) Q)
          -∗ wp (M := 𝕄) frame (wpE defs 𝒱₀ c none) Set.univ (.op (.enqueueDmaAs src (.here dst) .same (.dma sm) hsrc hdst hsem) k) Q) := by
  subst hN
  iintro H Hk
  iapply (Transfers.wp_dmaLocal countersEmb 𝒱₀ c none (default : HIx 2) dst.view.dmaCredit rfl (View.dmaCredit_pos _ hs) (Finset.Subset.refl _)) $$ H
  iintro Hf
  iapply Hk
  iapply (Transfers.Flight_mono countersEmb c (sep_mono (Entails.of_eq (pointsTo_congr hg)) .rfl))
  iexact Hf

/-- A wait on a transfer in flight: what it delivers, its semaphore at zero again. -/
theorem wait_step (c : Thread nD τ) {sp sp' : Space} {s s' : Shape} {e e' : EltTy} {sem sem' : DmaSem sig} (he : sem = sem')
    {srcw : Memref sig c.2.kind sp s e} {dstw : Memref sig c.2.kind sp' s' e'} {hsrc : srcw.view.WordExact} {hdst : dstw.view.WordExact}
    {k : PUnit → Prog (TpuEff nD τ sig (Elt F) Λ₀ c.2) α} {N : ℕ} {D : sProp 𝕄} {O : CellTallies nD τ sig (HIx 2)} {W : Waits sig (HIx 2)}
    (hN : dstw.view.dmaCredit = N) :
    iprop(Transfers.Flight countersEmb c (.dma sem') (default : HIx 2) N D ∗ owes c O W ∗ Transfers.MayWaits c (default : HIx 2) O)
      ⊢ iprop(((D ∗ semVal (c, .dma sem') 0 ∗ owes c O (insert (SemLoc.dma sem', default) W)) -∗ wp frame (wpE defs 𝒱₀ c none) Set.univ (k ⟨⟩) Q)
          -∗ wp (M := 𝕄) frame (wpE defs 𝒱₀ c none) Set.univ (.op (.waitDma2 sem srcw dstw hsrc hdst) k) Q) := by
  subst he
  iintro ⟨Hf, HO, Hm⟩ Hk
  iapply (Transfers.wp_waitLocalO countersEmb 𝒱₀ c none (default : HIx 2) hN) $$ [Hf HO Hm]
  · isplitl [Hf]; · iexact Hf
    isplitl [HO]; · iexact HO
    iapply (Transfers.MayWaits.elim (SemLoc.dma sem)) $$ Hm
  iexact Hk

/-- The semaphore an operation names, by the slot its offset says. -/
theorem sem_eq {s : DmaSems sig S2} {o : Fin 1 → ℕ} {t : ℕ} (h : o = ![t % 2]) {hi : ∀ a, o a + S1.size a ≤ S2.size a} :
    ((s.slice (Rect.unit (s := S2) o S1.size hi)).squeeze S_ squeezes_S1_S_).sem = semAt s t := by subst h; rfl

/-- The fetch of the row numbers of block `t` into its slot. -/
theorem fetch0 {t : ℕ} {o1 : Fin 3 → ℕ} {o2 : Fin 2 → ℕ} {o3 : Fin 1 → ℕ} (h1 : o1 = ![t % 2, 0, 0]) (h2 : o2 = ![0, 256 * (w0 i t % 416)]) (h3 : o3 = ![t % 2])
    {i1 : ∀ a, o1 a + S1x1x256.size a ≤ S2x1x256.size a} {i2 : ∀ a, o2 a + S1x256.size a ≤ S1x106496.size a} {i3 : ∀ a, o3 a + S1.size a ≤ S2.size a}
    {hsrc hdst hsem} {k : PUnit → Prog (TpuEff nD τ sig (Elt F) Λ₀ (thr0 d i).2) α} :
    iprop((L0 m d i).bi t ∗ (L0 m d i).inFree t)
      ⊢ iprop(((L0 m d i).inGo t -∗ wp frame (wpE defs 𝒱₀ (thr0 d i) none) Set.univ (k ⟨⟩) Q)
          -∗ wp (M := 𝕄) frame (wpE defs 𝒱₀ (thr0 d i) none) Set.univ
            (.op (.enqueueDmaAs ((iV).slice (Rect.unit (s := S1x106496) o2 S1x256.size i2) (fun _ => rfl))
              (.here (((aV).slice (Rect.unit (s := S2x1x256) o1 S1x1x256.size i1) (fun _ => rfl)).squeeze S1x256 squeezes_S1x1x256_S1x256)) .same
              (.dma ((cc0_scoped1.slice (Rect.unit (s := S2) o3 S1.size i3)).squeeze S_ squeezes_S1_S_).sem) hsrc hdst hsem) k) Q) := by
  subst h1 h2 h3
  unfold Line.inFree Line.inGo; dsimp only [L0]
  iintro ⟨Hb, ⟨%f, Hs⟩, Hv⟩ Hk
  iapply (copy_step (src := iBlk (w0 i t)) (dst := aSl t) (sm := semAt cc0_scoped1 t) (thr0 d i) (aSl 0).view.dmaCredit rfl (by decide) (a_write m d i t (w0 i t) f)) $$ [Hb Hs Hv]
  · isplitl [Hb]; · iexact Hb
    isplitl [Hs]; · iexact Hs
    iexact Hv
  iexact Hk

/-- The write of block `t` from its slot. -/
theorem flush0 {t : ℕ} {o1 : Fin 3 → ℕ} {o2 : Fin 2 → ℕ} {o3 : Fin 1 → ℕ} (h1 : o1 = ![t % 2, 0, 0]) (h2 : o2 = ![256 * (w0 i t % 416), 0]) (h3 : o3 = ![t % 2])
    {i1 : ∀ a, o1 a + S1x256x128.size a ≤ S2x256x128.size a} {i2 : ∀ a, o2 a + S256x128.size a ≤ S106496x128.size a} {i3 : ∀ a, o3 a + S1.size a ≤ S2.size a}
    {hsrc hdst hsem} {k : PUnit → Prog (TpuEff nD τ sig (Elt F) Λ₀ (thr0 d i).2) α} :
    iprop(so0 m d i t ∗ (L0 m d i).bo0 t ∗ semVal (thr0 d i, .dma (semAt cc0_scoped3 t)) 0)
      ⊢ iprop(((L0 m d i).outGo t -∗ wp frame (wpE defs 𝒱₀ (thr0 d i) none) Set.univ (k ⟨⟩) Q)
          -∗ wp (M := 𝕄) frame (wpE defs 𝒱₀ (thr0 d i) none) Set.univ
            (.op (.enqueueDmaAs (((bV).slice (Rect.unit (s := S2x256x128) o1 S1x256x128.size i1) (fun _ => rfl)).squeeze S256x128 squeezes_S1x256x128_S256x128)
              (.here ((gV).slice (Rect.unit (s := S106496x128) o2 S256x128.size i2) (fun _ => rfl))) .same
              (.dma ((cc0_scoped3.slice (Rect.unit (s := S2) o3 S1.size i3)).squeeze S_ squeezes_S1_S_).sem) hsrc hdst hsem) k) Q) := by
  subst h1 h2 h3
  unfold Line.outGo so0; dsimp only [L0]
  iintro ⟨Hs, ⟨%f, Hb⟩, Hv⟩ Hk
  iapply (copy_step (src := bSl t) (dst := gBlk (w0 i t)) (sm := semAt cc0_scoped3 t) (thr0 d i) (gBlk 0).view.dmaCredit rfl (by decide) (g_write m d i t (w0 i t) f)) $$ [Hs Hb Hv]
  · isplitl [Hs]; · iexact Hs
    isplitl [Hb]; · iexact Hb
    iexact Hv
  iintro Hf
  iapply Hk
  iapply (Transfers.Flight_mono countersEmb (thr0 d i) (sep_mono .rfl (exists_intro (Φ := fun f => iprop((bSl t).view.loc (thr0 d i) ↦[(bSl t).view.set]{fullShare} f)) (bVal m d (w0 i t)))))
  iexact Hf

/-- The whole table, as the gather names it. -/
abbrev tAll : Memref sig .scVector .hbm S100000x128 .f32 :=
  (tV).slice (Rect.unit (s := S100000x128) ![0, 0] S100000x128.size inb_S100000x128_S100000x128_0_0) (fun _ => rfl)
/-- Input slot `t` as the gather names it: a list of 256 row numbers. -/
abbrev oSl (t : ℕ) : Memref sig .scVector .vmem S256 .i32 :=
  ((aSl t).slice (Rect.unit (s := S1x256) ![0, 0] S1x256.size inb_S1x256_S1x256_0_0) (fun _ => rfl)).squeeze S256 squeezes_S1x256_S256

theorem oSl_emb (t : ℕ) (x : S256.Idx) : (oSl t).view.emb x = ix3 (n0 := 2) (n1 := 1) (n2 := 256) ⟨t % 2, by omega⟩ 0 (x 0) := by
  have e : Shape.reshapeEquiv squeezes_S1x256_S256.numel_eq x = ix2 (n0 := 1) (n1 := 256) 0 (x 0) :=
    Shape.reshapeEquiv_eq_of_rowMajor _ (by
      rw [Shape.rowMajor_val_two, Shape.rowMajor_val_one]
      show 0 * 256 + (x 0).val = (x 0).val
      omega)
  show (aSl t).view.emb ((Rect.unit (s := S1x256) ![0, 0] S1x256.size inb_S1x256_S1x256_0_0).emb (Shape.reshapeEquiv _ x)) = _
  rw [e, aSl_emb]
  exact congrArg _ (Fin.ext (show 0 + 1 * (x 0).val = (x 0).val by omega))
theorem tAll_emb (x : S100000x128.Idx) : (tAll).view.emb x = x := by
  funext a
  apply Fin.ext
  match a with
  | 0 => show 0 + 1 * (x 0).val = (x 0).val; omega
  | 1 => show 0 + 1 * (x 1).val = (x 1).val; omega
theorem tAll_set : (tAll).view.set = Finset.univ := by
  ext j; simp only [Finset.mem_univ, iff_true]; exact Finset.mem_map.mpr ⟨j, Finset.mem_univ _, tAll_emb j⟩
theorem oSl_set (t : ℕ) : (oSl t).view.set = (aSl t).view.set := by
  refine (View.set_reshape _ _).trans ((View.set_slice _ _).trans ?_)
  refine congrArg (fun S => Finset.map (aSl t).view.emb S) (Finset.eq_univ_of_forall fun j => ?_)
  refine Rect.mem_set_unit.mpr fun a => ?_
  match a with
  | 0 => exact ⟨Nat.zero_le _, by show (j 0).val < 0 + 1; have := (j 0).isLt; change (j 0).val < 1 at this; omega⟩
  | 1 => exact ⟨Nat.zero_le _, by show (j 1).val < 0 + 256; have := (j 1).isLt; change (j 1).val < 256 at this; omega⟩

/-- The list's words. -/
theorem oSl_read (t B : ℕ) (x : S256.Idx) : (oSl t).view.read (Elt F) (aVal m d B) x = V1 m d (ix2 0 ⟨256 * (B % 416) + (x 0).val, by
    have : (x 0).val < 256 := (x 0).isLt
    omega⟩) := by
  rw [View.read_apply]
  refine (cast_eq _ _).trans ?_
  rw [oSl_emb]
  rfl

/-- Every word of the list names a row. -/
theorem oSl_lt (h : PreOK m) (t B : ℕ) (x : S256.Idx) : ((oSl t).view.read (Elt F) (aVal m d B) x).toNat < S100000x128.size gathers_S100000x128_S256x128.axis := by
  rw [oSl_read]; exact V1_lt m h d _

/-- The gather leaves its block's rows in the output slot. -/
theorem b_gather (h : PreOK m) (t B : ℕ) (f : Buf (Elt F) ((bSl t).view.loc (thr0 d i))) : ∀ j ∈ (bSl t).view.set,
    (bSl t).view.write (Elt F) f (SparseCore.gatherPayload gathers_S100000x128_S256x128 ((tAll).view.read (Elt F) (V0 m d))
      (SparseCore.rows ((oSl t).view.read (Elt F) (aVal m d B)) (rfl : S256.numel = S256x128.size gathers_S100000x128_S256x128.axis') (oSl_lt m d h t B))) Finset.univ j = bVal m d B j := by
  intro j hj
  obtain ⟨x, -, rfl⟩ := Finset.mem_map.mp hj
  rw [View.write_emb_of_mem (h := Finset.mem_univ x)]
  refine (cast_eq _ _).trans ?_
  unfold SparseCore.gatherPayload
  rw [View.read_apply, tAll_emb]
  refine (cast_eq _ _).trans ?_
  unfold bVal V2
  rw [bSl_emb]
  congr 1
  have hr : S256.rowMajor.symm ((x 0).cast (rfl : S256x128.size 0 = S256.numel)) = ix1 (n0 := 256) (x 0) := by
    rw [Equiv.symm_apply_eq]; apply Fin.ext; rw [Shape.rowMajor_val_one]; rfl
  funext a
  match a with
  | 0 =>
    refine (Shape.Gathers.idx_axis gathers_S100000x128_S256x128 _ x).trans ?_
    apply Fin.ext
    show ((oSl t).view.read (Elt F) (aVal m d B) (S256.rowMajor.symm ((x 0).cast _))).toNat = _
    rw [hr, oSl_read]
    exact (Nat.mod_eq_of_lt (V1_lt m h d _)).symm
  | 1 => exact Fin.ext (Shape.Gathers.idx_of_ne gathers_S100000x128_S256x128 _ x 1 (by decide))

/-- What a gather's wait waits for. -/
def nG : ℕ := (bSl 0).view.dmaCredit
theorem nG_eq {o : Fin 3 → ℕ} {h : ∀ a, o a + S1x256x128.size a ≤ S2x256x128.size a} :
    (((bV).slice (Rect.unit (s := S2x256x128) o S1x256x128.size h) (fun _ => rfl)).squeeze S256x128 squeezes_S1x256x128_S256x128).view.dmaCredit = nG := rfl

/-- The gather of block `t`'s rows into its output slot. -/
theorem gather0 (h : PreOK m) {t : ℕ} {q : PosShare TreeShare} {o1 : Fin 3 → ℕ} {o2 : Fin 3 → ℕ} (h1 : o1 = ![t % 2, 0, 0]) (h2 : o2 = ![t % 2, 0, 0])
    {i1 : ∀ a, o1 a + S1x256x128.size a ≤ S2x256x128.size a} {i2 : ∀ a, o2 a + S1x1x256.size a ≤ S2x1x256.size a}
    {hp hn hsrc he} {k : PUnit → Prog (TpuEff nD τ sig (Elt F) Λ₀ (thr0 d i).2) α} :
    iprop(((tAll).view.loc (thr0 d i) ↦[(tAll).view.set]{q} V0 m d) ∗ (L0 m d i).so0 t ∗ (L0 m d i).si t ∗ semVal (thr0 d i, .dma cc0_scoped4.sem) 0)
      ⊢ iprop((Transfers.Flight countersEmb (thr0 d i) (.dma cc0_scoped4.sem) (default : HIx 2) nG
                  iprop(so0 m d i t ∗ ((tAll).view.loc (thr0 d i) ↦[(tAll).view.set]{q} V0 m d) ∗ (L0 m d i).si t)
                -∗ wp frame (wpE defs 𝒱₀ (thr0 d i) none) Set.univ (k ⟨⟩) Q)
          -∗ wp (M := 𝕄) frame (wpE defs 𝒱₀ (thr0 d i) none) Set.univ
            (SparseCore.enqueueIndirectGather hp tAll
              (((bV).slice (Rect.unit (s := S2x256x128) o1 S1x256x128.size i1) (fun _ => rfl)).squeeze S256x128 squeezes_S1x256x128_S256x128) gathers_S100000x128_S256x128
              (((((aV).slice (Rect.unit (s := S2x1x256) o2 S1x1x256.size i2) (fun _ => rfl)).squeeze S1x256 squeezes_S1x1x256_S1x256).slice
                (Rect.unit (s := S1x256) ![0, 0] S1x256.size inb_S1x256_S1x256_0_0) (fun _ => rfl)).squeeze S256 squeezes_S1x256_S256)
              hn cc0_scoped4.sem hsrc he (Or.inl rfl) (by decide) >>= k) Q) := by
  subst h1 h2
  have hN : ∀ h : S100000x128.Gathers 0 S256x128, ∑ j, ((bSl t).slice (S256x128.rowRect h.axis' j) (S256x128.stride_rowRect h.axis' j)).view.dmaCredit
      = (bSl 0).view.dmaCredit := fun h =>
    (Finset.sum_congr rfl fun j _ => (rfl : _ = ((bSl 0).slice (S256x128.rowRect h.axis' ⟨0, by show 0 < 256; omega⟩) (S256x128.stride_rowRect h.axis' _)).view.dmaCredit)).trans
      (by rw [Finset.sum_const]; revert h; decide +kernel)
  unfold so0; dsimp only [L0]
  iintro ⟨Ht, ⟨%f, Hs⟩, Ha, Hv⟩ Hk
  ihave Ha' := (Entails.of_eq (show ((aSl t).view.loc (thr0 d i) ↦[(aSl t).view.set]{fullShare} aVal m d (w0 i t) : sProp 𝕄)
    = (oSl t).view.loc (thr0 d i) ↦[(oSl t).view.set]{fullShare} aVal m d (w0 i t) by rw [oSl_set])) $$ Ha
  iapply (SparseCore.wp_indirectGatherLocal countersEmb 𝒱₀ (thr0 d i) none (hg := gathers_S100000x128_S256x128) (default : HIx 2)
      (bSl 0).view.dmaCredit (hN _) (by decide) (oSl_lt m d h t (w0 i t))) $$ [Ht Hs Ha' Hv]
  · isplitl [Ht]; · iexact Ht
    isplitl [Hs]; · iexact Hs
    isplitl [Ha']; · iexact Ha'
    iexact Hv
  iintro Hf
  iapply Hk
  iapply (Transfers.Flight_mono countersEmb (thr0 d i) (BIClass.sep_mono (Entails.of_eq (pointsTo_congr (b_gather m d i h t (w0 i t) f))) (BIClass.sep_mono .rfl (Entails.of_eq
    (show ((oSl t).view.loc (thr0 d i) ↦[(oSl t).view.set]{fullShare} aVal m d (w0 i t) : sProp 𝕄) = (aSl t).view.loc (thr0 d i) ↦[(aSl t).view.set]{fullShare} aVal m d (w0 i t)
      by rw [oSl_set])))))
  iexact Hf

end Steps

end Cert.Proof.Rows

end
-- ==== Proof.Tile0.lean ====
/-
  The first call on one tile: its pipeline of 13 trips, each trip one gather of 256 rows.
-/
module

public import proofs.«01_k».proof.Proof.Steps0

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ
local notation "tV" => (Memref.whole Cert.KernelIdeal.main_v0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S1x106496 EltTy.i32)
local notation "gV" => (Memref.whole Cert.KernelIdeal.main_v2_scv : Memref Cert.KernelIdeal.sig Kind.scVector Space.hbm Cert.KernelIdeal.S106496x128 EltTy.f32)
local notation "aV" => (Memref.whole Cert.KernelIdeal.cc0_scoped0 : Memref Cert.KernelIdeal.sig Kind.scVector Space.vmem Cert.KernelIdeal.S2x1x256 EltTy.i32)
local notation "bV" => (Memref.whole Cert.KernelIdeal.cc0_scoped2 : Memref Cert.KernelIdeal.sig Kind.scVector Space.vmem Cert.KernelIdeal.S2x256x128 EltTy.f32)

variable (m : (ℓ : Loc nD τ sig) → Buf (Elt F) ℓ) (d : Dev nD) (i : grid0.Coords)

/-- The tile's share of the table and the gather's semaphore, which every trip uses and gives back. -/
def base0 (q : PosShare TreeShare) : sProp 𝕄 :=
  iprop(((tAll).view.loc (thr0 d i) ↦[(tAll).view.set]{q} V0 m d) ∗ semVal (thr0 d i, .dma cc0_scoped4.sem) 0)
/-- What the loop carries into trip `t`. -/
def args0 (t : ℕ) : BitVec 32 × BitVec 32 × BitVec 32 × BitVec 32 × BitVec 32 := (aNext 13 t, aCur t, aCur t, aBack t, aPos 13 t)
/-- The number of the tile's first block, as the program computes it. -/
def x0 : BitVec 32 :=
  Scalar.muli (Scalar.addi (Scalar.addi 0#32 (Scalar.muli (BitVec.ofNat 32 (i 1).val) 1#32)) (Scalar.muli (BitVec.ofNat 32 (i 0).val) 16#32)) 13#32
/-- What is left to wait for, with nothing left behind. -/
def owed (c : Thread nD τ) (O : CellTallies nD τ sig (HIx 2)) (W : Waits sig (HIx 2)) : sProp 𝕄 :=
  iprop(∃ W', ⌜∀ p ∈ W', p ∈ W ∨ p.2 = none⌝ ∗ owes c O W')

/-- Slots come back every second trip. -/
theorem sem_per (s : DmaSems sig S2) {t u : ℕ} (h : t % 2 = u % 2) : semAt s t = semAt s u := sem_eq (o := ![t % 2]) (by rw [h])
theorem in_per {t u : ℕ} (h : t % 2 = u % 2) : (L0 m d i).inFree t = (L0 m d i).inFree u := by
  have hk : ∀ {o o' : Fin 3 → ℕ} (_ : o = o') (i i'), ((aV).slice (Rect.unit (s := S2x1x256) o S1x1x256.size i) (fun _ => rfl)).squeeze S1x256 squeezes_S1x1x256_S1x256
      = ((aV).slice (Rect.unit (s := S2x1x256) o' S1x1x256.size i') (fun _ => rfl)).squeeze S1x256 squeezes_S1x1x256_S1x256 := by rintro o _ rfl _ _; rfl
  have ha : aSl t = aSl u := hk (by rw [h]) _ _
  show iprop((∃ f, (aSl t).view.loc (thr0 d i) ↦[(aSl t).view.set]{fullShare} f) ∗ semVal (thr0 d i, .dma (semAt cc0_scoped1 t)) 0)
    = iprop((∃ f, (aSl u).view.loc (thr0 d i) ↦[(aSl u).view.set]{fullShare} f) ∗ semVal (thr0 d i, .dma (semAt cc0_scoped1 u)) 0)
  rw [ha, sem_per _ h]
theorem out_per {t u : ℕ} (h : t % 2 = u % 2) : (L0 m d i).outFree t = (L0 m d i).outFree u := by
  have hk : ∀ {o o' : Fin 3 → ℕ} (_ : o = o') (i i'), ((bV).slice (Rect.unit (s := S2x256x128) o S1x256x128.size i) (fun _ => rfl)).squeeze S256x128 squeezes_S1x256x128_S256x128
      = ((bV).slice (Rect.unit (s := S2x256x128) o' S1x256x128.size i') (fun _ => rfl)).squeeze S256x128 squeezes_S1x256x128_S256x128 := by rintro o _ rfl _ _; rfl
  have ha : bSl t = bSl u := hk (by rw [h]) _ _
  show iprop((∃ f, (bSl t).view.loc (thr0 d i) ↦[(bSl t).view.set]{fullShare} f) ∗ semVal (thr0 d i, .dma (semAt cc0_scoped3 t)) 0)
    = iprop((∃ f, (bSl u).view.loc (thr0 d i) ↦[(bSl u).view.set]{fullShare} f) ∗ semVal (thr0 d i, .dma (semAt cc0_scoped3 u)) 0)
  rw [ha, sem_per _ h]
theorem si_drop {t : ℕ} : (L0 m d i).si t ⊢ (L0 m d i).si0 t :=
  exists_intro (Φ := fun f => iprop((aSl t).view.loc (thr0 d i) ↦[(aSl t).view.set]{fullShare} f)) _
theorem owed_open (c : Thread nD τ) {O : CellTallies nD τ sig (HIx 2)} {W : Waits sig (HIx 2)} :
    (owed (F := F) c O W : sProp 𝕄) ⊢ iprop(∃ W', ⌜∀ p ∈ W', p ∈ W ∨ p.2 = none⌝ ∗ owes c O W') := .rfl
theorem owed_cons {W W' : Waits sig (HIx 2)} {s : SemLoc sig} (h : ∀ p ∈ W', p ∈ W ∨ p.2 = none) :
    ∀ p ∈ insert ((s, default) : SemLoc sig × HIx 2) W', p ∈ W ∨ p.2 = none := by
  intro p hp
  rcases Finset.mem_insert.mp hp with hp | hp
  · exact .inr (hp ▸ rfl)
  · exact h p hp
theorem owed_start (c : Thread nD τ) {O : CellTallies nD τ sig (HIx 2)} {W : Waits sig (HIx 2)} :
    (owes c O W : sProp 𝕄) ⊢ owed (F := F) c O W := by
  unfold owed
  iintro H
  iexists W
  isplitr; swap; · iexact H
  ipureintro; intro p hp; exact .inl hp
theorem owed_insert (c : Thread nD τ) {O : CellTallies nD τ sig (HIx 2)} {W W' : Waits sig (HIx 2)} {s : SemLoc sig} (h : ∀ p ∈ W', p ∈ W ∨ p.2 = none) :
    (owes c O (insert (s, default) W') : sProp 𝕄) ⊢ owed (F := F) c O W := by
  unfold owed
  iintro H
  iexists _
  isplitr; swap; · iexact H
  ipureintro
  intro p hp
  rcases Finset.mem_insert.mp hp with hp | hp
  · exact .inr (hp ▸ rfl)
  · exact h p hp

variable [FloatOps F]

section Steps

variable {defs : Defs nD τ sig (Elt F) Λ₀} {α : Type} {Q : α → sProp (MT nD τ sig (HIx 2) (Elt F) ℕ UU ℕ)}

/-- The fetch of the next block, where there is one. -/
theorem fetch0_if {t : ℕ} {c : Prop} {dc : Decidable c} (hc : c ↔ t + 1 < 13) {o1 : Fin 3 → ℕ} {o2 : Fin 2 → ℕ} {o3 : Fin 1 → ℕ}
    (h1 : t + 1 < 13 → o1 = ![(t + 1) % 2, 0, 0]) (h2 : t + 1 < 13 → o2 = ![0, 256 * (w0 i (t + 1) % 416)]) (h3 : t + 1 < 13 → o3 = ![(t + 1) % 2])
    {i1 : c → ∀ a, o1 a + S1x1x256.size a ≤ S2x1x256.size a} {i2 : c → ∀ a, o2 a + S1x256.size a ≤ S1x106496.size a} {i3 : c → ∀ a, o3 a + S1.size a ≤ S2.size a}
    {hsrc : ∀ h : c, ((iV).slice (Rect.unit (s := S1x106496) o2 S1x256.size (i2 h)) (fun _ => rfl)).view.WordExact} {hdst : ∀ h : c, (((aV).slice (Rect.unit (s := S2x1x256) o1 S1x1x256.size (i1 h)) (fun _ => rfl)).squeeze S1x256 squeezes_S1x1x256_S1x256).view.WordExact}
    {hsem : ∀ h : c, DmaTarget.Typed (nD := nD) .hbm (.dma ((cc0_scoped1.slice (Rect.unit (s := S2) o3 S1.size (i3 h))).squeeze S_ squeezes_S1_S_).sem) (DmaTarget.here (p := (thr0 d i).2) (((aV).slice (Rect.unit (s := S2x1x256) o1 S1x1x256.size (i1 h)) (fun _ => rfl)).squeeze S1x256 squeezes_S1x1x256_S1x256))}
    {K : Prog (TpuEff nD τ sig (Elt F) Λ₀ (thr0 d i).2) α} :
    iprop((L0 m d i).ins t ∗ (L0 m d i).inFree (t + 1))
      ⊢ iprop((((L0 m d i).insMid t ∗ (L0 m d i).inFl (t + 1)) -∗ wp frame (wpE defs 𝒱₀ (thr0 d i) none) Set.univ K Q)
          -∗ wp (M := 𝕄) frame (wpE defs 𝒱₀ (thr0 d i) none) Set.univ
            (@dite _ c dc (fun h => .op (.enqueueDmaAs ((iV).slice (Rect.unit (s := S1x106496) o2 S1x256.size (i2 h)) (fun _ => rfl))
              (.here (((aV).slice (Rect.unit (s := S2x1x256) o1 S1x1x256.size (i1 h)) (fun _ => rfl)).squeeze S1x256 squeezes_S1x1x256_S1x256)) .same
              (.dma ((cc0_scoped1.slice (Rect.unit (s := S2) o3 S1.size (i3 h))).squeeze S_ squeezes_S1_S_).sem) (hsrc h) (hdst h) (hsem h)) fun _ => K) (fun _ => K)) Q) := by
  by_cases h : c
  · have ht := hc.1 h
    rw [dif_pos h, Line.ins_take (L := L0 m d i) ht, Line.inFl_of_lt (L := L0 m d i) ht]
    iintro ⟨⟨Hb, Hr⟩, Hf⟩ Hk
    iapply (fetch0 m d i (h1 ht) (h2 ht) (h3 ht)) $$ [Hb Hf]
    · isplitl [Hb] <;> iassumption
    iintro Hg
    iapply Hk
    isplitl [Hr] <;> iassumption
  · have ht := mt hc.2 h
    rw [dif_neg h, Line.ins_end (L := L0 m d i) ht, Line.inFl_of_le (L := L0 m d i) ht]
    iintro H Hk
    iapply Hk
    iexact H

/-- The wait for the block written on the trip before, where there was one. -/
theorem drain0_if {t : ℕ} {O : CellTallies nD τ sig (HIx 2)} {W : Waits sig (HIx 2)} {c : Prop} {dc : Decidable c} (hc : c ↔ 0 < t) {o1 : Fin 3 → ℕ} {o2 : Fin 2 → ℕ} {o3 : Fin 1 → ℕ}
    (h3 : 0 < t → o3 = ![(t - 1) % 2])
    {i1 : c → ∀ a, o1 a + S1x256x128.size a ≤ S2x256x128.size a} {i2 : c → ∀ a, o2 a + S256x128.size a ≤ S106496x128.size a} {i3 : c → ∀ a, o3 a + S1.size a ≤ S2.size a}
    {hsrc : ∀ h : c, (((bV).slice (Rect.unit (s := S2x256x128) o1 S1x256x128.size (i1 h)) (fun _ => rfl)).squeeze S256x128 squeezes_S1x256x128_S256x128).view.WordExact} {hdst : ∀ h : c, ((gV).slice (Rect.unit (s := S106496x128) o2 S256x128.size (i2 h)) (fun _ => rfl)).view.WordExact}
    {K : Prog (TpuEff nD τ sig (Elt F) Λ₀ (thr0 d i).2) α} :
    iprop((L0 m d i).outFl t ∗ (L0 m d i).outs1 t ∗ owed (F := F) (thr0 d i) O W ∗ Transfers.MayWaits (thr0 d i) (default : HIx 2) O)
      ⊢ iprop((((L0 m d i).outFree (t + 1) ∗ (L0 m d i).outs1 (t + 1) ∗ owed (F := F) (thr0 d i) O W) -∗ wp frame (wpE defs 𝒱₀ (thr0 d i) none) Set.univ K Q)
          -∗ wp (M := 𝕄) frame (wpE defs 𝒱₀ (thr0 d i) none) Set.univ
            (@dite _ c dc (fun h => .op (.waitDma2 ((cc0_scoped3.slice (Rect.unit (s := S2) o3 S1.size (i3 h))).squeeze S_ squeezes_S1_S_).sem
              (((bV).slice (Rect.unit (s := S2x256x128) o1 S1x256x128.size (i1 h)) (fun _ => rfl)).squeeze S256x128 squeezes_S1x256x128_S256x128)
              ((gV).slice (Rect.unit (s := S106496x128) o2 S256x128.size (i2 h)) (fun _ => rfl)) (hsrc h) (hdst h)) fun _ => K) (fun _ => K)) Q) := by
  by_cases h : c
  · have ht := hc.1 h
    rw [dif_pos h, Line.outFl_of_pos (L := L0 m d i) ht, Line.outs1_put (L := L0 m d i) ht]
    unfold owed Line.outGo
    iintro ⟨Hg, Ho, ⟨%W', %hW', HO⟩, Hm⟩ Hk
    iapply (wait_step (thr0 d i) (sem_eq (s := cc0_scoped3) (t := t - 1) (h3 ht)) (N := (L0 m d i).nOut) rfl) $$ [Hg HO Hm]
    · isplitl [Hg]; · iexact Hg
      isplitl [HO]; · iexact HO
      iexact Hm
    iintro ⟨⟨Hb, Hs⟩, Hv, HO⟩
    iapply Hk
    isplitl [Hs Hv]
    · rw [show (L0 m d i).outFree (t + 1) = (L0 m d i).outFree (t - 1) from out_per m d i (by omega)]
      unfold Line.outFree
      isplitl [Hs]; · iexact Hs
      iexact Hv
    isplitl [Hb Ho]; · isplitl [Hb] <;> iassumption
    iapply (show _ ⊢ iprop(∃ W', ⌜∀ p ∈ W', p ∈ W ∨ p.2 = none⌝ ∗ owes (thr0 d i) O W') from owed_insert (thr0 d i) hW') $$ HO
  · have ht : ¬ 0 < t := mt hc.2 h
    obtain rfl : t = 0 := by omega
    rw [dif_neg h, Line.outFl_zero (L := L0 m d i)]
    iintro ⟨Hg, Ho, HO, -⟩ Hk
    iapply Hk
    isplitl [Hg]; · iexact Hg
    isplitl [Ho]; · iexact Ho
    iexact HO

end Steps

/-- The loop's invariant. -/
def inv0 (q : PosShare TreeShare) (O : CellTallies nD τ sig (HIx 2)) (W : Waits sig (HIx 2)) (t : ℕ) (acc : BitVec 32 × BitVec 32 × BitVec 32 × BitVec 32 × BitVec 32) : sProp 𝕄 :=
  iprop(⌜acc = args0 t⌝ ∗ (L0 m d i).state t ∗ base0 m d i q ∗ owed (F := F) (thr0 d i) O W ∗ Transfers.MayWaits (thr0 d i) (default : HIx 2) O)

/-- What the loop leaves. -/
theorem inv0_end {q : PosShare TreeShare} {O : CellTallies nD τ sig (HIx 2)} {W : Waits sig (HIx 2)} {acc : BitVec 32 × BitVec 32 × BitVec 32 × BitVec 32 × BitVec 32} :
    inv0 m d i q O W 13 acc ⊢ iprop(⌜acc = args0 13⌝ ∗ (L0 m d i).inFree 13 ∗ (L0 m d i).inFree 14 ∗ (L0 m d i).outFree 13
      ∗ Transfers.Flight countersEmb (thr0 d i) (SemLoc.dma (semAt cc0_scoped3 12)) (default : HIx 2) (L0 m d i).nOut iprop((L0 m d i).bo1 12 ∗ (L0 m d i).so0 12)
      ∗ bigSep (Finset.range 13) (L0 m d i).bi ∗ (L0 m d i).outs1 13 ∗ base0 m d i q ∗ owed (F := F) (thr0 d i) O W) := by
  unfold inv0 Line.state
  rw [Line.inFl_of_le (L := L0 m d i) (t := 13) (show ¬ 13 < 13 by omega), Line.outFl_of_pos (L := L0 m d i) (t := 13) (by omega)]
  iintro ⟨%h, ⟨Hi1, Hi0, Ho1, Hgo, Hbi, -, Ho⟩, Hb, HO, -⟩
  isplitr; · ipureintro; exact h
  isplitl [Hi1]; · iexact Hi1
  isplitl [Hi0]; · iexact Hi0
  isplitl [Ho1]; · iexact Ho1
  isplitl [Hgo]; · unfold Line.outGo; iexact Hgo
  isplitl [Hbi]; · iapply (Entails.of_eq (show (L0 m d i).ins 13 = bigSep (Finset.range 13) (L0 m d i).bi from Line.ins_last (L := L0 m d i))); iexact Hbi
  isplitl [Ho]; · iexact Ho
  isplitl [Hb]; · iexact Hb
  iexact HO

set_option maxHeartbeats 4000000 in
/-- One trip. -/
theorem trip0 (hpre : PreOK m) (q : PosShare TreeShare) (O : CellTallies nD τ sig (HIx 2)) (W : Waits sig (HIx 2)) (t : Fin k0_t1_loop.trips) :
    iprop((L0 m d i).state t.val ∗ base0 m d i q ∗ owed (F := F) (thr0 d i) O W ∗ Transfers.MayWaits (thr0 d i) (default : HIx 2) O)
      ⊢ wp (M := 𝕄) frame (wpE (defs₀ (F := F)) 𝒱₀ (thr0 d i) none) Set.univ
          (k0_t1_body i tV (Memref.isWhole_whole _) iV (Memref.isWhole_whole _) gV (Memref.isWhole_whole _)
            aV (Memref.isWhole_whole _) cc0_scoped1 bV (Memref.isWhole_whole _) cc0_scoped3 cc0_scoped4 (x0 i) t (args0 t.val))
          (inv0 m d i q O W (t.val + 1)) := by
  have ht : t.val < 13 := lt_of_lt_of_eq t.isLt k0_trips
  unfold k0_t1_body args0
  dsimp only
  simp only [k0_part1_eq_skeleton]; unfold k0_part1_skel
  simp only [wp_bind, Prog.lift, Prog.bind_op, Prog.bind_ret, Prog.pure_eq_ret, Prog.bind_assoc]
  unfold inv0 Line.state base0
  rw [Line.inFl_of_lt (L := L0 m d i) ht]
  unfold Line.inGo
  iintro ⟨⟨Hfl, Hfr, Hof, Hol, Hin, Ho0, Ho1⟩, ⟨Htab, Hg⟩, HO, #Hm⟩
  iapply (wp_assume _ _ _ _ (k0_chk3_ok t))
  iapply (wp_assume _ _ _ _ (k0_chk2_ok t))
  iapply (wp_assume _ _ _ _ (k0_chk1_ok i t))
  dsimp only
  rw [wp_bind]
  iapply (fetch0_if m d i (k0_cond1_iff i t) (k0_off4_at t) (k0_off5_at i t) (k0_off6_at t)) $$ [Hin Hfr]
  · isplitl [Hin] <;> iassumption
  iintro ⟨Hin, Hnx⟩
  rw [wp_ret]; imodintro
  dsimp only
  simp only [k0_part2_eq_skeleton]; unfold k0_part2_skel
  simp only [wp_bind, Prog.lift, Prog.bind_op, Prog.bind_ret, Prog.pure_eq_ret, Prog.bind_assoc, ite_self]
  rw [dif_pos (k0_cond2_eq i t)]
  -- THE BLOCK'S NUMBERS ARE IN
  ihave HO := (owed_open (thr0 d i)) $$ HO
  icases HO with ⟨%W1, %hW1, HO⟩
  ihave Hof := (Line.outFree_open (L := L0 m d i)) $$ Hof
  icases Hof with ⟨Hso, Hov⟩
  iapply (wait_step (thr0 d i) (sem_eq (s := cc0_scoped1) (t := t.val) (k0_off9_at t)) (N := (L0 m d i).nIn) rfl) $$ [Hfl HO]
  · isplitl [Hfl]; · iexact Hfl
    isplitl [HO]; · iexact HO
    iexact Hm
  iintro ⟨⟨Hsi, Hbi⟩, Hiv, HO⟩
  dsimp only
  -- THE GATHER
  rw [wp_bind]
  iapply (gather0 m d i hpre (t := t.val) (k0_off10_at t) (k0_off11_at t)) $$ [Htab Hso Hsi Hg]
  · isplitl [Htab]; · iexact Htab
    isplitl [Hso]; · iexact Hso
    isplitl [Hsi]; · iexact Hsi
    iexact Hg
  iintro Hfg
  rw [wp_ret]; imodintro
  unfold SparseCore.waitIndirectGather
  simp only [Prog.bind_op, Prog.bind_ret]
  iapply (wait_step (thr0 d i) (rfl : cc0_scoped4.sem = cc0_scoped4.sem) nG_eq) $$ [Hfg HO]
  · isplitl [Hfg]; · iexact Hfg
    isplitl [HO]; · iexact HO
    iexact Hm
  iintro ⟨⟨Hso, Htab, Hsi⟩, Hg, HO⟩
  rw [wp_ret]; imodintro
  -- THE BLOCK ON ITS WAY OUT
  rw [dif_pos (k0_cond5_eq i t)]
  ihave Ho0 := (Entails.of_eq (Line.outs0_take (L := L0 m d i) ht)) $$ Ho0
  icases Ho0 with ⟨Hbo, Ho0⟩
  iapply (flush0 m d i (t := t.val) (k0_off12_at t) (k0_off13_at i t) (k0_off14_at t)) $$ [Hso Hbo Hov]
  · isplitl [Hso]; · iexact Hso
    isplitl [Hbo]; · iexact Hbo
    iexact Hov
  iintro Hgo
  dsimp only
  iapply (drain0_if m d i (t := t.val) (W := W) (k0_cond7_iff i t) (fun h => (k0_off17_at t h).trans (by rw [show (t.val + 1) % 2 = (t.val - 1) % 2 by omega]))) $$ [Hol Ho1 HO]
  · isplitl [Hol]; · iexact Hol
    isplitl [Ho1]; · iexact Ho1
    isplitl [HO]; · iapply (owed_insert (thr0 d i) (s := .dma cc0_scoped4.sem) (owed_cons hW1)) $$ HO
    iexact Hm
  iintro ⟨Hof, Ho1, HO⟩
  rw [wp_ret]; imodintro
  isplitr
  · ipureintro
    unfold x0
    revert t i; decide +kernel
  isplitr [Htab Hg HO]
  · rw [Line.outFl_succ, Line.ins_put (L := L0 m d i) ht, show (L0 m d i).inFree (t.val + 1 + 1) = (L0 m d i).inFree t.val from in_per m d i (by omega)]
    isplitl [Hnx]; · iexact Hnx
    isplitl [Hsi Hiv]
    · iapply (Line.inFree_close (L := L0 m d i))
      isplitl [Hsi]; · iapply (si_drop m d i) $$ Hsi
      iexact Hiv
    isplitl [Hof]; · iexact Hof
    isplitl [Hgo]; · iexact Hgo
    isplitl [Hbi Hin]; · isplitl [Hbi] <;> iassumption
    isplitl [Ho0]; · iexact Ho0
    iexact Ho1
  isplitl [Htab Hg]; · isplitl [Htab]; · iexact Htab
                       iexact Hg
  isplitl [HO]; · iexact HO
  iexact Hm

set_option maxHeartbeats 4000000 in
/-- The whole pipeline: from the tile's blocks of row numbers, its blocks of rows. -/
theorem pipe0 (hpre : PreOK m) (q : PosShare TreeShare) (O : CellTallies nD τ sig (HIx 2)) (W : Waits sig (HIx 2)) :
    iprop((L0 m d i).inFree 0 ∗ (L0 m d i).inFree 1 ∗ (L0 m d i).outFree 0 ∗ (L0 m d i).outFree 1
        ∗ bigSep (Finset.range 13) (L0 m d i).bi ∗ bigSep (Finset.range 13) (L0 m d i).bo0
        ∗ base0 m d i q ∗ owes (thr0 d i) O W ∗ Transfers.MayWaits (thr0 d i) (default : HIx 2) O)
      ⊢ wp (M := 𝕄) frame (wpE (defs₀ (F := F)) 𝒱₀ (thr0 d i) none) Set.univ
          (cc0_sc_gather i tV (Memref.isWhole_whole _) iV (Memref.isWhole_whole _) gV (Memref.isWhole_whole _)
            aV (Memref.isWhole_whole _) cc0_scoped1 bV (Memref.isWhole_whole _) cc0_scoped3 cc0_scoped4)
          fun _ => iprop((L0 m d i).inFree 0 ∗ (L0 m d i).inFree 1 ∗ (L0 m d i).outFree 0 ∗ (L0 m d i).outFree 1
            ∗ bigSep (Finset.range 13) (L0 m d i).bi ∗ bigSep (Finset.range 13) (L0 m d i).bo1
            ∗ base0 m d i q ∗ owed (F := F) (thr0 d i) O W) := by
  simp only [cc0_sc_gather_eq_skeleton]; unfold cc0_sc_gather_skel
  simp only [k0_part3_eq_skeleton, k0_part4_eq_skeleton]; unfold k0_part3_skel k0_part4_skel
  simp only [wp_bind, Prog.lift, Prog.bind_op, Prog.bind_ret, Prog.pure_eq_ret, Prog.bind_assoc]
  iintro ⟨Hi0, Hi1, Ho0, Ho1, Hbi, Hbo, Hb, HO, #Hm⟩
  ihave Hbi := (Entails.of_eq (show bigSep (Finset.range 13) (L0 m d i).bi = _ from Line.ins_first (L := L0 m d i) (by show 0 < 13; omega))) $$ Hbi
  icases Hbi with ⟨Hb0, Hbi⟩
  iapply (fetch0 m d i (t := 0) k0_off1_at (k0_off2_at i) k0_off3_at) $$ [Hb0 Hi0]
  · isplitl [Hb0] <;> iassumption
  iintro Hg0
  sl_for (inv0 m d i q O W) $$ [Hg0 Hi1 Ho0 Ho1 Hbi Hbo Hb HO]
  · intro k acc
    sl_respell []
    unfold inv0
    iintro ⟨%h, H⟩
    subst h
    iapply (trip0 m d i hpre q O W k) $$ H
  · unfold inv0 Line.state
    rw [Line.inFl_of_lt (L := L0 m d i) (show 0 < 13 by omega), Line.outFl_zero (L := L0 m d i), Line.outs0_first (L := L0 m d i), Line.outs1_zero (L := L0 m d i)]
    isplitr; · ipureintro; decide
    isplitr [Hb HO]
    · isplitl [Hg0]; · iexact Hg0
      isplitl [Hi1]; · iexact Hi1
      isplitl [Ho0]; · iexact Ho0
      isplitl [Ho1]; · iexact Ho1
      isplitl [Hbi]; · iexact Hbi
      isplitl [Hbo]; · iexact Hbo
      iempintro
    isplitl [Hb]; · iexact Hb
    isplitl [HO]; · iapply (owed_start (thr0 d i)) $$ HO
    iexact Hm
  iintro %acc HI
  ihave HI := (Entails.of_eq (show inv0 m d i q O W (Scf.trips k0_t1_loop.lb k0_t1_loop.ub k0_t1_loop.st) acc = inv0 m d i q O W 13 acc from
    congrArg (fun n => inv0 m d i q O W n acc) k0_trips)) $$ HI
  ihave HI := (inv0_end m d i) $$ HI
  icases HI with ⟨%h, Hi1, Hi0, Ho1, Hgo, Hbi, Ho1s, Hb, HO⟩
  subst h
  sl_respell []
  iapply (wp_assume _ _ _ _ (k0_chk5_ok i))
  iapply (wp_assume _ _ _ _ k0_chk4_ok)
  dsimp only
  ihave HO := (owed_open (thr0 d i)) $$ HO
  icases HO with ⟨%W1, %hW1, HO⟩
  iapply (wait_step (thr0 d i) (sem_eq (s := cc0_scoped3) (t := 12) k0_off20_at) (N := (L0 m d i).nOut) rfl) $$ [Hgo HO]
  · isplitl [Hgo]; · iexact Hgo
    isplitl [HO]; · iexact HO
    iexact Hm
  iintro ⟨⟨Hb1, Hs⟩, Hv, HO⟩
  rw [wp_ret]; imodintro
  rw [show (L0 m d i).inFree 0 = (L0 m d i).inFree 14 from in_per m d i (by omega), show (L0 m d i).inFree 1 = (L0 m d i).inFree 13 from in_per m d i (by omega),
    show (L0 m d i).outFree 1 = (L0 m d i).outFree 13 from out_per m d i (by omega), show (L0 m d i).outFree 0 = (L0 m d i).outFree 12 from out_per m d i (by omega)]
  isplitl [Hi0]; · iexact Hi0
  isplitl [Hi1]; · iexact Hi1
  isplitl [Hs Hv]; · iapply (Line.outFree_close (L := L0 m d i)); isplitl [Hs]; · iexact Hs
                     iexact Hv
  isplitl [Ho1]; · iexact Ho1
  isplitl [Hbi]; · iexact Hbi
  isplitl [Hb1 Ho1s]
  · iapply (Entails.of_eq (show iprop((L0 m d i).bo1 12 ∗ (L0 m d i).outs1 13) = bigSep (Finset.range 13) (L0 m d i).bo1 from (Line.outs1_put (L := L0 m d i) (t := 13) (by omega)).symm))
    isplitl [Hb1]; · iexact Hb1
    iexact Ho1s
  isplitl [Hb]; · iexact Hb
  iapply (owed_insert (thr0 d i) hW1) $$ HO

end Cert.Proof.Rows

end
-- ==== Proof.Offs1.lean ====
/-
  The second call's loop variables in closed form: what trip `t` of a tile's loop carries, which of its branches are
  taken, and which slot, semaphore and block each of its operations names; and the pieces of the loop over a block's rows.
-/
module

public import proofs.«01_k».proof.Proof.Offs0

@[expose] public section

set_option maxRecDepth 65536

namespace Cert.Proof.Rows

open Cert.KernelIdeal Cert.KernelIdeal.Gen
open Idealize.ShloMosaic

/-- Block `t` of the tile at `i`, numbered over the whole array. -/
def w1 (i : grid1.Coords) (t : ℕ) : ℕ := 104 * ((i 1).val + 16 * (i 0).val) + t

theorem k1_trips : k1_t1_loop.trips = 104 := by decide +kernel
theorem k1_trips2 : k1_t2_loop.trips = 8 := by decide +kernel

/-! ## The branches -/

theorem k1_cond1_iff : ∀ (i : grid1.Coords) (t : Fin k1_t1_loop.trips), k1_cond1 i t (aPos 104 t) = 1#1 ↔ t.val + 1 < 104 := by decide +kernel
theorem k1_cond2_eq : ∀ (i : grid1.Coords) (t : Fin k1_t1_loop.trips), k1_cond2 i t (aPos 104 t) = 1#1 := by decide +kernel
theorem k1_cond5_eq : ∀ (i : grid1.Coords) (t : Fin k1_t1_loop.trips), k1_cond5 i t (aPos 104 t) = 1#1 := by decide +kernel
theorem k1_cond7_iff : ∀ (i : grid1.Coords) (t : Fin k1_t1_loop.trips), k1_cond7 i t (aPos 104 t) = 1#1 ↔ 0 < t.val := by decide +kernel

theorem k1_chk1_ok : ∀ (i : grid1.Coords) (t : Fin k1_t1_loop.trips), k1_chk1 i t (aNext 104 t) (aCur t) (aCur t) (aBack t) (aPos 104 t) := by decide +kernel
theorem k1_chk2_ok : ∀ (t : Fin k1_t1_loop.trips), k1_chk2 (aCur t) := by decide +kernel
theorem k1_chk3_ok : ∀ (t : Fin k1_t1_loop.trips), k1_chk3 (aCur t) := by decide +kernel
theorem k1_chk4_ok : k1_chk4 (aBack 104) := by decide +kernel
theorem k1_chk5_ok : ∀ (i : grid1.Coords), k1_chk5 i (aPos 104 104) := by decide +kernel

/-! ## The fetches -/

theorem k1_off1_at : k1_off1 = ![0 % 2, 0, 0] := by decide +kernel
theorem k1_off2_at : ∀ (i : grid1.Coords), k1_off2 i = ![32 * (w1 i 0 % 3328), 0] := by decide +kernel
theorem k1_off3_at : k1_off3 = ![0 % 2] := by decide +kernel
theorem k1_off4_at : ∀ (t : Fin k1_t1_loop.trips), t.val + 1 < 104 → k1_off4 (aNext 104 t) = ![(t.val + 1) % 2, 0, 0] := by decide +kernel
theorem k1_off5_at : ∀ (i : grid1.Coords) (t : Fin k1_t1_loop.trips), t.val + 1 < 104 → k1_off5 i (aPos 104 t) = ![32 * (w1 i (t.val + 1) % 3328), 0] := by decide +kernel
theorem k1_off6_at : ∀ (t : Fin k1_t1_loop.trips), t.val + 1 < 104 → k1_off6 (aNext 104 t) = ![(t.val + 1) % 2] := by decide +kernel
theorem k1_off9_at : ∀ (t : Fin k1_t1_loop.trips), k1_off9 (aCur t) = ![t.val % 2] := by decide +kernel

/-! ## The slots the rows are read from and written to -/

theorem k1_off10_at : ∀ (t : Fin k1_t1_loop.trips), k1_off10 (aCur t) = ![t.val % 2, 0, 0] := by decide +kernel
theorem k1_off12_at : ∀ (t : Fin k1_t1_loop.trips), k1_off12 (aCur t) = ![t.val % 2, 0, 0, 0] := by decide +kernel
theorem k1_off14_at : ∀ (t : Fin k1_t1_loop.trips), k1_off14 (aCur t) = ![t.val % 2, 0, 0] := by decide +kernel

/-! ## The block's write, and the wait for the block before -/

theorem k1_off23_at : ∀ (t : Fin k1_t1_loop.trips), k1_off23 (aCur t) = ![t.val % 2, 0, 0, 0] := by decide +kernel
theorem k1_off24_at : ∀ (i : grid1.Coords) (t : Fin k1_t1_loop.trips), k1_off24 i (aPos 104 t) = ![32 * (w1 i t.val % 3328), 0, 0] := by decide +kernel
theorem k1_off25_at : ∀ (t : Fin k1_t1_loop.trips), k1_off25 (aCur t) = ![t.val % 2] := by decide +kernel
theorem k1_off28_at : ∀ (t : Fin k1_t1_loop.trips), 0 < t.val → k1_off28 (aBack t) = ![(t.val + 1) % 2] := by decide +kernel
theorem k1_off31_at : k1_off31 (aBack 104) = ![103 % 2] := by decide +kernel

/-! ## The pieces of a row: eight of sixteen lanes -/

theorem k1_off11_at : ∀ (k : Fin k1_t2_loop.trips), k1_off11 k = ![4 * k.val, 0] := by decide +kernel
theorem k1_off13_at : ∀ (k : Fin k1_t2_loop.trips) (r : Fin 4) (p : Fin 8),
    k1_off13 k (BitVec.ofNat 32 r.val) (BitVec.ofNat 32 p.val) = ![32 * k.val + 8 * r.val + p.val, 0] := by decide +kernel
theorem k1_off15_at : ∀ (k : Fin k1_t2_loop.trips) (r : Fin 4), k1_off15 k (BitVec.ofNat 32 r.val) = ![4 * k.val + r.val, 16] := by decide +kernel
theorem k1_off16_at : ∀ (k : Fin k1_t2_loop.trips) (r : Fin 4), k1_off16 k (BitVec.ofNat 32 r.val) = ![4 * k.val + r.val, 32] := by decide +kernel
theorem k1_off17_at : ∀ (k : Fin k1_t2_loop.trips) (r : Fin 4), k1_off17 k (BitVec.ofNat 32 r.val) = ![4 * k.val + r.val, 48] := by decide +kernel
theorem k1_off18_at : ∀ (k : Fin k1_t2_loop.trips) (r : Fin 4), k1_off18 k (BitVec.ofNat 32 r.val) = ![4 * k.val + r.val, 64] := by decide +kernel
theorem k1_off19_at : ∀ (k : Fin k1_t2_loop.trips) (r : Fin 4), k1_off19 k (BitVec.ofNat 32 r.val) = ![4 * k.val + r.val, 80] := by decide +kernel
theorem k1_off20_at : ∀ (k : Fin k1_t2_loop.trips) (r : Fin 4), k1_off20 k (BitVec.ofNat 32 r.val) = ![4 * k.val + r.val, 96] := by decide +kernel
theorem k1_off21_at : ∀ (k : Fin k1_t2_loop.trips) (r : Fin 4), k1_off21 k (BitVec.ofNat 32 r.val) = ![4 * k.val + r.val, 112] := by decide +kernel
theorem k1_off22_at : ∀ (k : Fin k1_t2_loop.trips) (r : Fin 4), k1_off22 k (BitVec.ofNat 32 r.val) = ![4 * k.val + r.val, 0] := by decide +kernel

end Cert.Proof.Rows
-- ==== Proof.Steps1.lean ====
/-
  The second call's operations, each at the slot, semaphore and block it names: the fetch of a block of rows, the copy of
  one piece of sixteen lanes from the input slot to the output slot, the block's write.
-/
module

public import proofs.«01_k».proof.Proof.Tile0
public import proofs.«01_k».proof.Proof.Offs1

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ
local notation "gV" => (Memref.whole Cert.KernelIdeal.main_v2_scv : Memref Cert.KernelIdeal.sig Kind.scVector Space.hbm Cert.KernelIdeal.S106496x128 EltTy.f32)
local notation "oV" => (Memref.whole Cert.KernelIdeal.main_v3_scv : Memref Cert.KernelIdeal.sig Kind.scVector Space.hbm Cert.KernelIdeal.S106496x8x16 EltTy.f32)
local notation "cV" => (Memref.whole Cert.KernelIdeal.cc1_scoped0 : Memref Cert.KernelIdeal.sig Kind.scVector Space.vmem Cert.KernelIdeal.S2x32x128 EltTy.f32)
local notation "dV" => (Memref.whole Cert.KernelIdeal.cc1_scoped2 : Memref Cert.KernelIdeal.sig Kind.scVector Space.vmem Cert.KernelIdeal.S2x32x8x16 EltTy.f32)

/-! ## The slots -/

theorem c0_inb (t : ℕ) : ∀ a, (![t % 2, 0, 0] : Fin 3 → ℕ) a + S1x32x128.size a ≤ S2x32x128.size a
  | 0 => by show t % 2 + 1 ≤ 2; omega
  | 1 => by show 0 + 32 ≤ 32; omega
  | 2 => by show 0 + 128 ≤ 128; omega
theorem d0_inb (t : ℕ) : ∀ a, (![t % 2, 0, 0, 0] : Fin 4 → ℕ) a + S1x32x8x16.size a ≤ S2x32x8x16.size a
  | 0 => by show t % 2 + 1 ≤ 2; omega
  | 1 => by show 0 + 32 ≤ 32; omega
  | 2 => by show 0 + 8 ≤ 8; omega
  | 3 => by show 0 + 16 ≤ 16; omega

/-- Input slot `t`: 32 rows. -/
abbrev cSl (t : ℕ) : Memref sig .scVector .vmem S32x128 .f32 :=
  ((cV).slice (Rect.unit (s := S2x32x128) ![t % 2, 0, 0] S1x32x128.size (c0_inb t)) (fun _ => rfl)).squeeze S32x128 squeezes_S1x32x128_S32x128
/-- Output slot `t`: 32 rows, each in eight pieces. -/
abbrev dSl (t : ℕ) : Memref sig .scVector .vmem S32x8x16 .f32 :=
  ((dV).slice (Rect.unit (s := S2x32x8x16) ![t % 2, 0, 0, 0] S1x32x8x16.size (d0_inb t)) (fun _ => rfl)).squeeze S32x8x16 squeezes_S1x32x8x16_S32x8x16

theorem cSl_emb (t : ℕ) (x : S32x128.Idx) : (cSl t).view.emb x = ix3 (n0 := 2) (n1 := 32) (n2 := 128) ⟨t % 2, by omega⟩ (x 0) (x 1) := by
  have e : Shape.reshapeEquiv squeezes_S1x32x128_S32x128.numel_eq x = ix3 (n0 := 1) (n1 := 32) (n2 := 128) 0 (x 0) (x 1) :=
    Shape.reshapeEquiv_eq_of_rowMajor _ (by
      rw [Shape.rowMajor_val_three, Shape.rowMajor_val_two]
      show (0 * 32 + (x 0).val) * 128 + (x 1).val = (x 0).val * 128 + (x 1).val
      omega)
  show (Rect.unit (s := S2x32x128) ![t % 2, 0, 0] S1x32x128.size (c0_inb t)).emb (Shape.reshapeEquiv _ x) = _
  rw [e]
  funext a
  apply Fin.ext
  match a with
  | 0 => show t % 2 + 1 * 0 = t % 2; omega
  | 1 => show 0 + 1 * (x 0).val = (x 0).val; omega
  | 2 => show 0 + 1 * (x 1).val = (x 1).val; omega

theorem dSl_emb (t : ℕ) (x : S32x8x16.Idx) : (dSl t).view.emb x = ix4 (n0 := 2) (n1 := 32) (n2 := 8) (n3 := 16) ⟨t % 2, by omega⟩ (x 0) (x 1) (x 2) := by
  have e : Shape.reshapeEquiv squeezes_S1x32x8x16_S32x8x16.numel_eq x = ix4 (n0 := 1) (n1 := 32) (n2 := 8) (n3 := 16) 0 (x 0) (x 1) (x 2) :=
    Shape.reshapeEquiv_eq_of_rowMajor _ (by
      rw [Shape.rowMajor_val_four, Shape.rowMajor_val_three]
      show ((0 * 32 + (x 0).val) * 8 + (x 1).val) * 16 + (x 2).val = ((x 0).val * 8 + (x 1).val) * 16 + (x 2).val
      omega)
  show (Rect.unit (s := S2x32x8x16) ![t % 2, 0, 0, 0] S1x32x8x16.size (d0_inb t)).emb (Shape.reshapeEquiv _ x) = _
  rw [e]
  funext a
  apply Fin.ext
  match a with
  | 0 => show t % 2 + 1 * 0 = t % 2; omega
  | 1 => show 0 + 1 * (x 0).val = (x 0).val; omega
  | 2 => show 0 + 1 * (x 1).val = (x 1).val; omega
  | 3 => show 0 + 1 * (x 2).val = (x 2).val; omega

theorem fBlk_emb (B : ℕ) (x : S32x128.Idx) : (fBlk B).view.emb x = ix2 (n0 := 106496) (n1 := 128) ⟨32 * (B % 3328) + (x 0).val, by
    have : (x 0).val < 32 := (x 0).isLt
    omega⟩ (x 1) := by
  show (Rect.unit (s := S106496x128) ![32 * (B % 3328), 0] S32x128.size (fBlk_inb B)).emb x = _
  funext a
  apply Fin.ext
  match a with
  | 0 => show 32 * (B % 3328) + 1 * (x 0).val = 32 * (B % 3328) + (x 0).val; omega
  | 1 => show 0 + 1 * (x 1).val = (x 1).val; omega

theorem oBlk_emb (B : ℕ) (x : S32x8x16.Idx) : (oBlk B).view.emb x = ix3 (n0 := 106496) (n1 := 8) (n2 := 16) ⟨32 * (B % 3328) + (x 0).val, by
    have : (x 0).val < 32 := (x 0).isLt
    omega⟩ (x 1) (x 2) := by
  show (Rect.unit (s := S106496x8x16) ![32 * (B % 3328), 0, 0] S32x8x16.size (oBlk_inb B)).emb x = _
  funext a
  apply Fin.ext
  match a with
  | 0 => show 32 * (B % 3328) + 1 * (x 0).val = 32 * (B % 3328) + (x 0).val; omega
  | 1 => show 0 + 1 * (x 1).val = (x 1).val; omega
  | 2 => show 0 + 1 * (x 2).val = (x 2).val; omega

variable (m : (ℓ : Loc nD τ sig) → Buf (Elt F) ℓ) (d : Dev nD) (i : grid1.Coords)

/-! ## What the slots hold -/

/-- The tile's thread. -/
abbrev thr1 : Thread nD τ := V d ((i 0).castLE hcore1) ((i 1).castLE hsub1)

/-- The rows of block `B`, as a slot of the input buffer holds them. -/
def cVal (B : ℕ) : S2x32x128.Idx → Elt F .f32 := fun j => V2 m d (ix2 ⟨32 * (B % 3328) + (j 1).val, by
  have : (j 1).val < 32 := (j 1).isLt
  omega⟩ (j 2))
/-- The rows of block `B` in pieces, as a slot of the output buffer holds them. -/
def dVal (B : ℕ) : S2x32x8x16.Idx → Elt F .f32 := fun j => V3 m d (ix3 ⟨32 * (B % 3328) + (j 1).val, by
  have : (j 1).val < 32 := (j 1).isLt
  omega⟩ (j 2) (j 3))

/-- The tile's pipeline in the second call. -/
def L1 : Line F where
  thr := thr1 d i
  n := 104
  inS := semAt cc1_scoped1
  outS := semAt cc1_scoped3
  nIn := (cSl 0).view.dmaCredit
  nOut := (oBlk 0).view.dmaCredit
  bi t := iprop((fBlk (w1 i t)).view.loc (thr1 d i) ↦[(fBlk (w1 i t)).view.set]{fullShare} V2 m d)
  bo0 t := iprop(∃ f, (oBlk (w1 i t)).view.loc (thr1 d i) ↦[(oBlk (w1 i t)).view.set]{fullShare} f)
  bo1 t := iprop((oBlk (w1 i t)).view.loc (thr1 d i) ↦[(oBlk (w1 i t)).view.set]{fullShare} V3 m d)
  si t := iprop((cSl t).view.loc (thr1 d i) ↦[(cSl t).view.set]{fullShare} cVal m d (w1 i t))
  si0 t := iprop(∃ f, (cSl t).view.loc (thr1 d i) ↦[(cSl t).view.set]{fullShare} f)
  so0 t := iprop(∃ f, (dSl t).view.loc (thr1 d i) ↦[(dSl t).view.set]{fullShare} f)

/-- The first `n` pieces of slot contents `f` are block `B`'s. -/
def Upto (t B n : ℕ) (f : S2x32x8x16.Idx → Elt F .f32) : Prop :=
  ∀ j : S2x32x8x16.Idx, (j 0).val = t % 2 → 8 * (j 1).val + (j 2).val < n → f j = dVal m d B j
/-- Output slot `t` with the first `n` of its 256 pieces written. -/
def so1 (t n : ℕ) : sProp 𝕄 := iprop(∃ f, ⌜Upto m d t (w1 i t) n f⌝ ∗ ((dSl t).view.loc (thr1 d i) ↦[(dSl t).view.set]{fullShare} f))

/-- A fetched block is in its slot. -/
theorem c_write (t B : ℕ) (f : Buf (Elt F) ((cSl t).view.loc (thr1 d i))) : ∀ j ∈ (cSl t).view.set,
    (cSl t).view.write (Elt F) f ((fBlk B).view.read (Elt F) (V2 m d)) Finset.univ j = cVal m d B j := by
  intro j hj
  obtain ⟨x, -, rfl⟩ := Finset.mem_map.mp hj
  rw [View.write_emb_of_mem (h := Finset.mem_univ x), View.read_apply, fBlk_emb]
  refine (cast_eq _ _).trans ((cast_eq _ _).trans ?_)
  unfold cVal
  rw [cSl_emb]
  rfl
/-- A written block holds its slot's rows. -/
theorem o_write (t B : ℕ) (f : Buf (Elt F) ((oBlk B).view.loc (thr1 d i))) {g : S2x32x8x16.Idx → Elt F .f32} (hg : Upto m d t B 256 g) : ∀ j ∈ (oBlk B).view.set,
    (oBlk B).view.write (Elt F) f ((dSl t).view.read (Elt F) g) Finset.univ j = V3 m d j := by
  intro j hj
  obtain ⟨x, -, rfl⟩ := Finset.mem_map.mp hj
  rw [View.write_emb_of_mem (h := Finset.mem_univ x), View.read_apply, oBlk_emb]
  refine (cast_eq _ _).trans ((cast_eq _ _).trans ?_)
  rw [dSl_emb]
  refine (hg _ rfl ?_).trans rfl
  have h0 : (x 0).val < 32 := (x 0).isLt
  have h1 : (x 1).val < 8 := (x 1).isLt
  show 8 * (x 0).val + (x 1).val < 256
  omega

/-! ## The steps -/

section Steps

variable [FloatOps F] {defs : Defs nD τ sig (Elt F) Λ₀} {α : Type} {Q : α → sProp (MT nD τ sig (HIx 2) (Elt F) ℕ UU ℕ)}

/-- The fetch of block `t`'s rows into its slot. -/
theorem fetch1 {t : ℕ} {o1 : Fin 3 → ℕ} {o2 : Fin 2 → ℕ} {o3 : Fin 1 → ℕ} (h1 : o1 = ![t % 2, 0, 0]) (h2 : o2 = ![32 * (w1 i t % 3328), 0]) (h3 : o3 = ![t % 2])
    {i1 : ∀ a, o1 a + S1x32x128.size a ≤ S2x32x128.size a} {i2 : ∀ a, o2 a + S32x128.size a ≤ S106496x128.size a} {i3 : ∀ a, o3 a + S1.size a ≤ S2.size a}
    {hsrc hdst hsem} {k : PUnit → Prog (TpuEff nD τ sig (Elt F) Λ₀ (thr1 d i).2) α} :
    iprop((L1 m d i).bi t ∗ (L1 m d i).inFree t)
      ⊢ iprop(((L1 m d i).inGo t -∗ wp frame (wpE defs 𝒱₀ (thr1 d i) none) Set.univ (k ⟨⟩) Q)
          -∗ wp (M := 𝕄) frame (wpE defs 𝒱₀ (thr1 d i) none) Set.univ
            (.op (.enqueueDmaAs ((gV).slice (Rect.unit (s := S106496x128) o2 S32x128.size i2) (fun _ => rfl))
              (.here (((cV).slice (Rect.unit (s := S2x32x128) o1 S1x32x128.size i1) (fun _ => rfl)).squeeze S32x128 squeezes_S1x32x128_S32x128)) .same
              (.dma ((cc1_scoped1.slice (Rect.unit (s := S2) o3 S1.size i3)).squeeze S_ squeezes_S1_S_).sem) hsrc hdst hsem) k) Q) := by
  subst h1 h2 h3
  unfold Line.inFree Line.inGo; dsimp only [L1]
  iintro ⟨Hb, ⟨%f, Hs⟩, Hv⟩ Hk
  iapply (copy_step (src := fBlk (w1 i t)) (dst := cSl t) (sm := semAt cc1_scoped1 t) (thr1 d i) (cSl 0).view.dmaCredit rfl (by decide) (c_write m d i t (w1 i t) f)) $$ [Hb Hs Hv]
  · isplitl [Hb]; · iexact Hb
    isplitl [Hs]; · iexact Hs
    iexact Hv
  iexact Hk

/-- The write of block `t` from its slot. -/
theorem flush1 {t : ℕ} {o1 : Fin 4 → ℕ} {o2 : Fin 3 → ℕ} {o3 : Fin 1 → ℕ} (h1 : o1 = ![t % 2, 0, 0, 0]) (h2 : o2 = ![32 * (w1 i t % 3328), 0, 0]) (h3 : o3 = ![t % 2])
    {i1 : ∀ a, o1 a + S1x32x8x16.size a ≤ S2x32x8x16.size a} {i2 : ∀ a, o2 a + S32x8x16.size a ≤ S106496x8x16.size a} {i3 : ∀ a, o3 a + S1.size a ≤ S2.size a}
    {hsrc hdst hsem} {k : PUnit → Prog (TpuEff nD τ sig (Elt F) Λ₀ (thr1 d i).2) α} :
    iprop(so1 m d i t 256 ∗ (L1 m d i).bo0 t ∗ semVal (thr1 d i, .dma (semAt cc1_scoped3 t)) 0)
      ⊢ iprop(((L1 m d i).outGo t -∗ wp frame (wpE defs 𝒱₀ (thr1 d i) none) Set.univ (k ⟨⟩) Q)
          -∗ wp (M := 𝕄) frame (wpE defs 𝒱₀ (thr1 d i) none) Set.univ
            (.op (.enqueueDmaAs (((dV).slice (Rect.unit (s := S2x32x8x16) o1 S1x32x8x16.size i1) (fun _ => rfl)).squeeze S32x8x16 squeezes_S1x32x8x16_S32x8x16)
              (.here ((oV).slice (Rect.unit (s := S106496x8x16) o2 S32x8x16.size i2) (fun _ => rfl))) .same
              (.dma ((cc1_scoped3.slice (Rect.unit (s := S2) o3 S1.size i3)).squeeze S_ squeezes_S1_S_).sem) hsrc hdst hsem) k) Q) := by
  subst h1 h2 h3
  unfold Line.outGo so1; dsimp only [L1]
  iintro ⟨⟨%g, %hg, Hs⟩, ⟨%f, Hb⟩, Hv⟩ Hk
  iapply (copy_step (src := dSl t) (dst := oBlk (w1 i t)) (sm := semAt cc1_scoped3 t) (thr1 d i) (oBlk 0).view.dmaCredit rfl (by decide) (o_write m d i t (w1 i t) f hg)) $$ [Hs Hb Hv]
  · isplitl [Hs]; · iexact Hs
    isplitl [Hb]; · iexact Hb
    iexact Hv
  iintro Hf
  iapply Hk
  iapply (Transfers.Flight_mono countersEmb (thr1 d i) (sep_mono .rfl (exists_intro (Φ := fun f => iprop((dSl t).view.loc (thr1 d i) ↦[(dSl t).view.set]{fullShare} f)) g)))
  iexact Hf

end Steps

end Cert.Proof.Rows

end
-- ==== Proof.Piece1.lean ====
/-
  The second call's inner loop: piece after piece of sixteen lanes, from the input slot to the output slot.
-/
module

public import proofs.«01_k».proof.Proof.Steps1

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ
local notation "gV" => (Memref.whole Cert.KernelIdeal.main_v2_scv : Memref Cert.KernelIdeal.sig Kind.scVector Space.hbm Cert.KernelIdeal.S106496x128 EltTy.f32)
local notation "oV" => (Memref.whole Cert.KernelIdeal.main_v3_scv : Memref Cert.KernelIdeal.sig Kind.scVector Space.hbm Cert.KernelIdeal.S106496x8x16 EltTy.f32)
local notation "cV" => (Memref.whole Cert.KernelIdeal.cc1_scoped0 : Memref Cert.KernelIdeal.sig Kind.scVector Space.vmem Cert.KernelIdeal.S2x32x128 EltTy.f32)
local notation "dV" => (Memref.whole Cert.KernelIdeal.cc1_scoped2 : Memref Cert.KernelIdeal.sig Kind.scVector Space.vmem Cert.KernelIdeal.S2x32x8x16 EltTy.f32)

variable (m : (ℓ : Loc nD τ sig) → Buf (Elt F) ℓ) (d : Dev nD) (i : grid1.Coords)

/-- Output slot `t` as the pieces are written: 256 of them, sixteen lanes each. -/
abbrev eSl (t : ℕ) (h3 : (dSl t).view.Contiguous) : Memref sig .scVector .vmem S256x16 .f32 :=
  (dSl t).reshape S256x16 reshapes_S32x8x16_S256x16.1 reshapes_S32x8x16_S256x16.2 h3

theorem eSl_emb (t : ℕ) {h3 : (dSl t).view.Contiguous} (x : S256x16.Idx) : (eSl t h3).view.emb x = ix4 (n0 := 2) (n1 := 32) (n2 := 8) (n3 := 16) ⟨t % 2, by omega⟩
    ⟨(x 0).val / 8, by have : (x 0).val < 256 := (x 0).isLt; omega⟩ ⟨(x 0).val % 8, by omega⟩ (x 1) := by
  have e : Shape.reshapeEquiv reshapes_S32x8x16_S256x16.1 x = ix3 (n0 := 32) (n1 := 8) (n2 := 16)
      ⟨(x 0).val / 8, by have : (x 0).val < 256 := (x 0).isLt; omega⟩ ⟨(x 0).val % 8, by omega⟩ (x 1) :=
    Shape.reshapeEquiv_eq_of_rowMajor _ (by
      rw [Shape.rowMajor_val_three, Shape.rowMajor_val_two]
      show ((x 0).val / 8 * 8 + (x 0).val % 8) * 16 + (x 1).val = (x 0).val * 16 + (x 1).val
      omega)
  show (dSl t).view.emb (Shape.reshapeEquiv _ x) = _
  rw [e, dSl_emb]
  rfl

theorem piece_read {n : ℕ} (hn : n < 256) (t B : ℕ) {ol : Fin 2 → ℕ} (hl : ol = ![n / 8, 16 * (n % 8)]) {il : ∀ a, ol a + S1x16.size a ≤ S32x128.size a} (x : S1x16.Idx) :
    (cSl t).view.readAt (Elt F) (Rect.unit (s := S32x128) ol S1x16.size il).toLoadRect (cVal m d B) x
      = V3 m d (ix3 ⟨32 * (B % 3328) + n / 8, by omega⟩ ⟨n % 8, by omega⟩ (x 1)) := by
  subst hl
  rw [View.readAt_apply, View.read_apply]
  refine (cast_eq _ _).trans ?_
  rw [cSl_emb]
  unfold cVal V3
  congr 1
  funext a
  apply Fin.ext
  match a with
  | 0 =>
    show 32 * (B % 3328) + (n / 8 + 1 * (x 0).val) = 32 * (B % 3328) + n / 8
    have h0 : (x 0).val < 1 := (x 0).isLt
    omega
  | 1 =>
    show 16 * (n % 8) + 1 * (x 1).val = 16 * (n % 8) + (x 1).val
    omega

theorem piece_write {n : ℕ} (hn : n < 256) (t B : ℕ) {h3 : (dSl t).view.Contiguous} {os : Fin 2 → ℕ} (hs : os = ![n, 0]) {is : ∀ a, os a + S1x16.size a ≤ S256x16.size a}
    {f : S2x32x8x16.Idx → Elt F .f32} (hf : Upto m d t B n f) {w : S1x16.Idx → Elt F .f32}
    (hw : ∀ x : S1x16.Idx, w x = V3 m d (ix3 ⟨32 * (B % 3328) + n / 8, by omega⟩ ⟨n % 8, by omega⟩ (x 1))) :
    Upto m d t B (n + 1) (((eSl t h3).access (Rect.unit (s := S256x16) os S1x16.size is)).write (Elt F) f w Finset.univ) := by
  subst hs
  have hemb : ∀ x : S1x16.Idx, ((eSl t h3).access (Rect.unit (s := S256x16) ![n, 0] S1x16.size is)).emb x
      = ix4 (n0 := 2) (n1 := 32) (n2 := 8) (n3 := 16) ⟨t % 2, by omega⟩ ⟨n / 8, by omega⟩ ⟨n % 8, by omega⟩ (x 1) := by
    intro x
    show (eSl t h3).view.emb ((Rect.unit (s := S256x16) ![n, 0] S1x16.size is).emb x) = _
    rw [eSl_emb]
    have h0 : (x 0).val < 1 := (x 0).isLt
    have h00 : (((Rect.unit (s := S256x16) ![n, 0] S1x16.size is).emb x) 0).val = n := by show n + 1 * (x 0).val = n; omega
    funext a
    apply Fin.ext
    match a with
    | 0 => rfl
    | 1 => show (((Rect.unit (s := S256x16) ![n, 0] S1x16.size is).emb x) 0).val / 8 = n / 8; rw [h00]
    | 2 => show (((Rect.unit (s := S256x16) ![n, 0] S1x16.size is).emb x) 0).val % 8 = n % 8; rw [h00]
    | 3 => show 0 + 1 * (x 1).val = (x 1).val; omega
  intro j hj hlt
  have hj2 : (j 2).val < 8 := (j 2).isLt
  rcases Nat.lt_or_ge (8 * (j 1).val + (j 2).val) n with h | h
  · rw [View.write_of_not_mem]
    · exact hf j hj h
    · intro hm
      obtain ⟨x, -, rfl⟩ := Finset.mem_map.mp hm
      rw [hemb] at h
      change 8 * (n / 8) + n % 8 < n at h
      omega
  · have hjx : j = ((eSl t h3).access (Rect.unit (s := S256x16) ![n, 0] S1x16.size is)).emb (ix2 (n0 := 1) (n1 := 16) 0 (j 3)) := by
      rw [hemb]
      funext a
      apply Fin.ext
      match a with
      | 0 => exact hj
      | 1 => show (j 1).val = n / 8; omega
      | 2 => show (j 2).val = n % 8; omega
      | 3 => rfl
    rw [hjx, View.write_emb_of_mem (h := Finset.mem_univ _)]
    refine (cast_eq _ _).trans ((hw _).trans ?_)
    rw [hemb]
    rfl

section Steps

variable [FloatOps F] {defs : Defs nD τ sig (Elt F) Λ₀} {α : Type} {Q : α → sProp (MT nD τ sig (HIx 2) (Elt F) ℕ UU ℕ)}

/-- The store of one piece, the slot held by its own elements. -/
theorem piece_store {t : ℕ} {h3 : (dSl t).view.Contiguous} {os : Fin 2 → ℕ} {is : ∀ a, os a + S1x16.size a ≤ S256x16.size a} {w : S1x16.Idx → Elt F .f32} {hx3 hx4}
    {f : Buf (Elt F) ((dSl t).view.loc (thr1 d i))} {K : PUnit → Prog (TpuEff nD τ sig (Elt F) Λ₀ (thr1 d i).2) α} :
    ((dSl t).view.loc (thr1 d i) ↦[(dSl t).view.set]{fullShare} f)
      ⊢ iprop((((dSl t).view.loc (thr1 d i) ↦[(dSl t).view.set]{fullShare} (((eSl t h3).access (Rect.unit (s := S256x16) os S1x16.size is)).write (Elt F) f w Finset.univ))
              -∗ wp frame (wpE defs 𝒱₀ (thr1 d i) none) Set.univ (K ⟨⟩) Q)
          -∗ wp (M := 𝕄) frame (wpE defs 𝒱₀ (thr1 d i) none) Set.univ
            (.op (.store (eSl t h3) (Rect.unit (s := S256x16) os S1x16.size is) w Finset.univ hx3 hx4) K) Q) := by
  have hset : (eSl t h3).view.set = (dSl t).view.set := View.set_reshape _ _
  have hS : ((eSl t h3).access (Rect.unit (s := S256x16) os S1x16.size is)).setOn Finset.univ ⊆ (dSl t).view.set :=
    hset ▸ (Memref.setOn_access_subset_setOn (eSl t h3) (Rect.unit (s := S256x16) os S1x16.size is) Finset.univ).trans
      (View.setOn_subset_set (eSl t h3).view (Rect.unit (s := S256x16) os S1x16.size is).set)
  iintro Ho
  iapply (wp_store (defs := defs) (Q := Q) 𝒱₀ (thr1 d i) none Set.univ (m := eSl t h3) (r := Rect.unit (s := S256x16) os S1x16.size is) (w := w) (f := f) (S := (dSl t).view.set) (hx := hx3) (hm := hx4) (k := K) hS) $$ Ho

/-- One piece: read from the input slot, written to the output slot. -/
theorem piece {t n : ℕ} (hn : n < 256) {o1 : Fin 3 → ℕ} {o2 : Fin 4 → ℕ} {ol os : Fin 2 → ℕ} (h1 : o1 = ![t % 2, 0, 0]) (h2 : o2 = ![t % 2, 0, 0, 0])
    (hl : ol = ![n / 8, 16 * (n % 8)]) (hs : os = ![n, 0]) {pay : Vec F S1x16 .f32 → FVec F S1x16 .f32} (hp : ∀ v, pay v = v)
    {i1 : ∀ a, o1 a + S1x32x128.size a ≤ S2x32x128.size a} {i2 : ∀ a, o2 a + S1x32x8x16.size a ≤ S2x32x8x16.size a}
    {il : ∀ a, ol a + S1x16.size a ≤ S32x128.size a} {is : ∀ a, os a + S1x16.size a ≤ S256x16.size a}
    {h3 : (((dV).slice (Rect.unit (s := S2x32x8x16) o2 S1x32x8x16.size i2) (fun _ => rfl)).squeeze S32x8x16 squeezes_S1x32x8x16_S32x8x16).view.Contiguous} {hx1 hx2 hx3 hx4}
    {K : PUnit → Prog (TpuEff nD τ sig (Elt F) Λ₀ (thr1 d i).2) α} :
    iprop((L1 m d i).si t ∗ so1 m d i t n)
      ⊢ iprop((((L1 m d i).si t ∗ so1 m d i t (n + 1)) -∗ wp frame (wpE defs 𝒱₀ (thr1 d i) none) Set.univ (K ⟨⟩) Q)
          -∗ wp (M := 𝕄) frame (wpE defs 𝒱₀ (thr1 d i) none) Set.univ
            (.op (.load (((cV).slice (Rect.unit (s := S2x32x128) o1 S1x32x128.size i1) (fun _ => rfl)).squeeze S32x128 squeezes_S1x32x128_S32x128)
                (Rect.unit (s := S32x128) ol S1x16.size il).toLoadRect hx1) fun v =>
              .op (.load ((((dV).slice (Rect.unit (s := S2x32x8x16) o2 S1x32x8x16.size i2) (fun _ => rfl)).squeeze S32x8x16 squeezes_S1x32x8x16_S32x8x16).reshape S256x16
                  reshapes_S32x8x16_S256x16.1 reshapes_S32x8x16_S256x16.2 h3) (Rect.unit (s := S256x16) os S1x16.size is).toLoadRect hx2) fun _ =>
              .op (.store ((((dV).slice (Rect.unit (s := S2x32x8x16) o2 S1x32x8x16.size i2) (fun _ => rfl)).squeeze S32x8x16 squeezes_S1x32x8x16_S32x8x16).reshape S256x16
                  reshapes_S32x8x16_S256x16.1 reshapes_S32x8x16_S256x16.2 h3) (Rect.unit (s := S256x16) os S1x16.size is) (pay v) Finset.univ hx3 hx4) K) Q) := by
  subst h1 h2
  unfold so1; dsimp only [L1]
  have hset : (eSl t h3).view.set = (dSl t).view.set := View.set_reshape _ _
  have hS1 : (eSl t h3).view.setOn (Rect.unit (s := S256x16) os S1x16.size is).toLoadRect.set ⊆ (dSl t).view.set :=
    hset ▸ View.setOn_subset_set (eSl t h3).view (Rect.unit (s := S256x16) os S1x16.size is).toLoadRect.set
  iintro ⟨Hi, ⟨%f, %hf, Ho⟩⟩ Hk
  iapply (wp_load 𝒱₀ (thr1 d i) none Set.univ (m := cSl t) (S := (cSl t).view.set) (View.setOn_subset_set _ _)) $$ Hi
  iintro Hi
  iapply (wp_load 𝒱₀ (thr1 d i) none Set.univ (m := eSl t h3) (S := (dSl t).view.set) hS1) $$ Ho
  iintro Ho
  iapply (piece_store d i) $$ Ho
  iintro Ho
  iapply Hk
  isplitl [Hi]; · iexact Hi
  iexists _
  isplitr; swap; · iexact Ho
  ipureintro
  refine piece_write m d hn t (w1 i t) hs hf fun x => ?_
  rw [hp]
  exact piece_read m d hn t (w1 i t) hl x

end Steps

end Cert.Proof.Rows

end
-- ==== Proof.Trip2.lean ====
/-
  One trip of the second call's inner loop: four rows, thirty-two pieces.
-/
module

public import proofs.«01_k».proof.Proof.Piece1

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ
local notation "gV" => (Memref.whole Cert.KernelIdeal.main_v2_scv : Memref Cert.KernelIdeal.sig Kind.scVector Space.hbm Cert.KernelIdeal.S106496x128 EltTy.f32)
local notation "oV" => (Memref.whole Cert.KernelIdeal.main_v3_scv : Memref Cert.KernelIdeal.sig Kind.scVector Space.hbm Cert.KernelIdeal.S106496x8x16 EltTy.f32)
local notation "cV" => (Memref.whole Cert.KernelIdeal.cc1_scoped0 : Memref Cert.KernelIdeal.sig Kind.scVector Space.vmem Cert.KernelIdeal.S2x32x128 EltTy.f32)
local notation "dV" => (Memref.whole Cert.KernelIdeal.cc1_scoped2 : Memref Cert.KernelIdeal.sig Kind.scVector Space.vmem Cert.KernelIdeal.S2x32x8x16 EltTy.f32)

variable (m : (ℓ : Loc nD τ sig) → Buf (Elt F) ℓ) (d : Dev nD) (i : grid1.Coords)

theorem at_eq {a b a' b' : ℕ} (h : a = a') (h' : b = b') : (![a, b] : Fin 2 → ℕ) = ![a', b'] := by subst h h'; rfl

variable [FloatOps F]

set_option maxHeartbeats 8000000 in
/-- One trip of the inner loop. -/
theorem trip2 (t : Fin k1_t1_loop.trips) (k : Fin k1_t2_loop.trips) {a5 a8 a9 : BitVec 32} {hw3 : k1_chk3 (aCur t)} {hw2 : k1_chk2 (aCur t)} {hw1 : k1_chk1 i t a5 (aCur t) (aCur t) a8 a9}
    {a4 : BitVec 32} {v64 v65 : BitVec 1} {v66 v71 v76 : BitVec 32} {v96 : BitVec 1} :
    iprop((L1 m d i).si t.val ∗ so1 m d i t.val (32 * k.val))
      ⊢ wp (M := 𝕄) frame (wpE (defs₀ (F := F)) 𝒱₀ (thr1 d i) none) Set.univ
          (k1_t2_body i gV (Memref.isWhole_whole _) oV (Memref.isWhole_whole _) cV (Memref.isWhole_whole _) cc1_scoped1 dV (Memref.isWhole_whole _) cc1_scoped3
            t a5 (aCur t) (aCur t) a8 a9 hw3 hw2 hw1 a4 v64 v65 v66 v71 v76 v96 k ⟨⟩)
          fun _ => iprop((L1 m d i).si t.val ∗ so1 m d i t.val (32 * (k.val + 1))) := by
  have hk : k.val < 8 := lt_of_lt_of_eq k.isLt k1_trips2
  unfold k1_t2_body
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel
  simp only [Prog.lift, Prog.bind_op, Prog.bind_ret, Prog.pure_eq_ret, Prog.bind_assoc]
  iintro H
  iapply (piece m d i (t := t.val) (n := 32 * k.val + 0) (by omega) (k1_off10_at t) (k1_off12_at t) ((k1_off11_at k).trans (at_eq (by omega) (by omega)))
    ((k1_off13_at k 0 0).trans (at_eq (by omega) (by omega))) (fun v => shapeCast_shapeCast v _ _)) $$ H
  iintro H
  iapply (piece m d i (t := t.val) (n := 32 * k.val + 1) (by omega) (k1_off14_at t) (k1_off12_at t) ((k1_off15_at k 0).trans (at_eq (by omega) (by omega)))
    ((k1_off13_at k 0 1).trans (at_eq (by omega) (by omega))) (fun v => shapeCast_shapeCast v _ _)) $$ H
  iintro H
  iapply (piece m d i (t := t.val) (n := 32 * k.val + 2) (by omega) (k1_off14_at t) (k1_off12_at t) ((k1_off16_at k 0).trans (at_eq (by omega) (by omega)))
    ((k1_off13_at k 0 2).trans (at_eq (by omega) (by omega))) (fun v => shapeCast_shapeCast v _ _)) $$ H
  iintro H
  iapply (piece m d i (t := t.val) (n := 32 * k.val + 3) (by omega) (k1_off14_at t) (k1_off12_at t) ((k1_off17_at k 0).trans (at_eq (by omega) (by omega)))
    ((k1_off13_at k 0 3).trans (at_eq (by omega) (by omega))) (fun v => shapeCast_shapeCast v _ _)) $$ H
  iintro H
  iapply (piece m d i (t := t.val) (n := 32 * k.val + 4) (by omega) (k1_off14_at t) (k1_off12_at t) ((k1_off18_at k 0).trans (at_eq (by omega) (by omega)))
    ((k1_off13_at k 0 4).trans (at_eq (by omega) (by omega))) (fun v => shapeCast_shapeCast v _ _)) $$ H
  iintro H
  iapply (piece m d i (t := t.val) (n := 32 * k.val + 5) (by omega) (k1_off14_at t) (k1_off12_at t) ((k1_off19_at k 0).trans (at_eq (by omega) (by omega)))
    ((k1_off13_at k 0 5).trans (at_eq (by omega) (by omega))) (fun v => shapeCast_shapeCast v _ _)) $$ H
  iintro H
  iapply (piece m d i (t := t.val) (n := 32 * k.val + 6) (by omega) (k1_off14_at t) (k1_off12_at t) ((k1_off20_at k 0).trans (at_eq (by omega) (by omega)))
    ((k1_off13_at k 0 6).trans (at_eq (by omega) (by omega))) (fun v => shapeCast_shapeCast v _ _)) $$ H
  iintro H
  iapply (piece m d i (t := t.val) (n := 32 * k.val + 7) (by omega) (k1_off14_at t) (k1_off12_at t) ((k1_off21_at k 0).trans (at_eq (by omega) (by omega)))
    ((k1_off13_at k 0 7).trans (at_eq (by omega) (by omega))) (fun v => shapeCast_shapeCast v _ _)) $$ H
  iintro H
  iapply (piece m d i (t := t.val) (n := 32 * k.val + 8) (by omega) (k1_off14_at t) (k1_off12_at t) ((k1_off22_at k 1).trans (at_eq (by omega) (by omega)))
    ((k1_off13_at k 1 0).trans (at_eq (by omega) (by omega))) (fun v => shapeCast_shapeCast v _ _)) $$ H
  iintro H
  iapply (piece m d i (t := t.val) (n := 32 * k.val + 9) (by omega) (k1_off14_at t) (k1_off12_at t) ((k1_off15_at k 1).trans (at_eq (by omega) (by omega)))
    ((k1_off13_at k 1 1).trans (at_eq (by omega) (by omega))) (fun v => shapeCast_shapeCast v _ _)) $$ H
  iintro H
  iapply (piece m d i (t := t.val) (n := 32 * k.val + 10) (by omega) (k1_off14_at t) (k1_off12_at t) ((k1_off16_at k 1).trans (at_eq (by omega) (by omega)))
    ((k1_off13_at k 1 2).trans (at_eq (by omega) (by omega))) (fun v => shapeCast_shapeCast v _ _)) $$ H
  iintro H
  iapply (piece m d i (t := t.val) (n := 32 * k.val + 11) (by omega) (k1_off14_at t) (k1_off12_at t) ((k1_off17_at k 1).trans (at_eq (by omega) (by omega)))
    ((k1_off13_at k 1 3).trans (at_eq (by omega) (by omega))) (fun v => shapeCast_shapeCast v _ _)) $$ H
  iintro H
  iapply (piece m d i (t := t.val) (n := 32 * k.val + 12) (by omega) (k1_off14_at t) (k1_off12_at t) ((k1_off18_at k 1).trans (at_eq (by omega) (by omega)))
    ((k1_off13_at k 1 4).trans (at_eq (by omega) (by omega))) (fun v => shapeCast_shapeCast v _ _)) $$ H
  iintro H
  iapply (piece m d i (t := t.val) (n := 32 * k.val + 13) (by omega) (k1_off14_at t) (k1_off12_at t) ((k1_off19_at k 1).trans (at_eq (by omega) (by omega)))
    ((k1_off13_at k 1 5).trans (at_eq (by omega) (by omega))) (fun v => shapeCast_shapeCast v _ _)) $$ H
  iintro H
  iapply (piece m d i (t := t.val) (n := 32 * k.val + 14) (by omega) (k1_off14_at t) (k1_off12_at t) ((k1_off20_at k 1).trans (at_eq (by omega) (by omega)))
    ((k1_off13_at k 1 6).trans (at_eq (by omega) (by omega))) (fun v => shapeCast_shapeCast v _ _)) $$ H
  iintro H
  iapply (piece m d i (t := t.val) (n := 32 * k.val + 15) (by omega) (k1_off14_at t) (k1_off12_at t) ((k1_off21_at k 1).trans (at_eq (by omega) (by omega)))
    ((k1_off13_at k 1 7).trans (at_eq (by omega) (by omega))) (fun v => shapeCast_shapeCast v _ _)) $$ H
  iintro H
  iapply (piece m d i (t := t.val) (n := 32 * k.val + 16) (by omega) (k1_off14_at t) (k1_off12_at t) ((k1_off22_at k 2).trans (at_eq (by omega) (by omega)))
    ((k1_off13_at k 2 0).trans (at_eq (by omega) (by omega))) (fun v => shapeCast_shapeCast v _ _)) $$ H
  iintro H
  iapply (piece m d i (t := t.val) (n := 32 * k.val + 17) (by omega) (k1_off14_at t) (k1_off12_at t) ((k1_off15_at k 2).trans (at_eq (by omega) (by omega)))
    ((k1_off13_at k 2 1).trans (at_eq (by omega) (by omega))) (fun v => shapeCast_shapeCast v _ _)) $$ H
  iintro H
  iapply (piece m d i (t := t.val) (n := 32 * k.val + 18) (by omega) (k1_off14_at t) (k1_off12_at t) ((k1_off16_at k 2).trans (at_eq (by omega) (by omega)))
    ((k1_off13_at k 2 2).trans (at_eq (by omega) (by omega))) (fun v => shapeCast_shapeCast v _ _)) $$ H
  iintro H
  iapply (piece m d i (t := t.val) (n := 32 * k.val + 19) (by omega) (k1_off14_at t) (k1_off12_at t) ((k1_off17_at k 2).trans (at_eq (by omega) (by omega)))
    ((k1_off13_at k 2 3).trans (at_eq (by omega) (by omega))) (fun v => shapeCast_shapeCast v _ _)) $$ H
  iintro H
  iapply (piece m d i (t := t.val) (n := 32 * k.val + 20) (by omega) (k1_off14_at t) (k1_off12_at t) ((k1_off18_at k 2).trans (at_eq (by omega) (by omega)))
    ((k1_off13_at k 2 4).trans (at_eq (by omega) (by omega))) (fun v => shapeCast_shapeCast v _ _)) $$ H
  iintro H
  iapply (piece m d i (t := t.val) (n := 32 * k.val + 21) (by omega) (k1_off14_at t) (k1_off12_at t) ((k1_off19_at k 2).trans (at_eq (by omega) (by omega)))
    ((k1_off13_at k 2 5).trans (at_eq (by omega) (by omega))) (fun v => shapeCast_shapeCast v _ _)) $$ H
  iintro H
  iapply (piece m d i (t := t.val) (n := 32 * k.val + 22) (by omega) (k1_off14_at t) (k1_off12_at t) ((k1_off20_at k 2).trans (at_eq (by omega) (by omega)))
    ((k1_off13_at k 2 6).trans (at_eq (by omega) (by omega))) (fun v => shapeCast_shapeCast v _ _)) $$ H
  iintro H
  iapply (piece m d i (t := t.val) (n := 32 * k.val + 23) (by omega) (k1_off14_at t) (k1_off12_at t) ((k1_off21_at k 2).trans (at_eq (by omega) (by omega)))
    ((k1_off13_at k 2 7).trans (at_eq (by omega) (by omega))) (fun v => shapeCast_shapeCast v _ _)) $$ H
  iintro H
  iapply (piece m d i (t := t.val) (n := 32 * k.val + 24) (by omega) (k1_off14_at t) (k1_off12_at t) ((k1_off22_at k 3).trans (at_eq (by omega) (by omega)))
    ((k1_off13_at k 3 0).trans (at_eq (by omega) (by omega))) (fun v => shapeCast_shapeCast v _ _)) $$ H
  iintro H
  iapply (piece m d i (t := t.val) (n := 32 * k.val + 25) (by omega) (k1_off14_at t) (k1_off12_at t) ((k1_off15_at k 3).trans (at_eq (by omega) (by omega)))
    ((k1_off13_at k 3 1).trans (at_eq (by omega) (by omega))) (fun v => shapeCast_shapeCast v _ _)) $$ H
  iintro H
  iapply (piece m d i (t := t.val) (n := 32 * k.val + 26) (by omega) (k1_off14_at t) (k1_off12_at t) ((k1_off16_at k 3).trans (at_eq (by omega) (by omega)))
    ((k1_off13_at k 3 2).trans (at_eq (by omega) (by omega))) (fun v => shapeCast_shapeCast v _ _)) $$ H
  iintro H
  iapply (piece m d i (t := t.val) (n := 32 * k.val + 27) (by omega) (k1_off14_at t) (k1_off12_at t) ((k1_off17_at k 3).trans (at_eq (by omega) (by omega)))
    ((k1_off13_at k 3 3).trans (at_eq (by omega) (by omega))) (fun v => shapeCast_shapeCast v _ _)) $$ H
  iintro H
  iapply (piece m d i (t := t.val) (n := 32 * k.val + 28) (by omega) (k1_off14_at t) (k1_off12_at t) ((k1_off18_at k 3).trans (at_eq (by omega) (by omega)))
    ((k1_off13_at k 3 4).trans (at_eq (by omega) (by omega))) (fun v => shapeCast_shapeCast v _ _)) $$ H
  iintro H
  iapply (piece m d i (t := t.val) (n := 32 * k.val + 29) (by omega) (k1_off14_at t) (k1_off12_at t) ((k1_off19_at k 3).trans (at_eq (by omega) (by omega)))
    ((k1_off13_at k 3 5).trans (at_eq (by omega) (by omega))) (fun v => shapeCast_shapeCast v _ _)) $$ H
  iintro H
  iapply (piece m d i (t := t.val) (n := 32 * k.val + 30) (by omega) (k1_off14_at t) (k1_off12_at t) ((k1_off20_at k 3).trans (at_eq (by omega) (by omega)))
    ((k1_off13_at k 3 6).trans (at_eq (by omega) (by omega))) (fun v => shapeCast_shapeCast v _ _)) $$ H
  iintro H
  iapply (piece m d i (t := t.val) (n := 32 * k.val + 31) (by omega) (k1_off14_at t) (k1_off12_at t) ((k1_off21_at k 3).trans (at_eq (by omega) (by omega)))
    ((k1_off13_at k 3 7).trans (at_eq (by omega) (by omega))) (fun v => shapeCast_shapeCast v _ _)) $$ H
  iintro H
  rw [wp_ret]; imodintro
  iexact H

end Cert.Proof.Rows

end
-- ==== Proof.Tile1.lean ====
/-
  The second call on one tile: its pipeline of 104 trips, each trip 32 rows cut in pieces of sixteen lanes.
-/
module

public import proofs.«01_k».proof.Proof.Trip2

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ
local notation "gV" => (Memref.whole Cert.KernelIdeal.main_v2_scv : Memref Cert.KernelIdeal.sig Kind.scVector Space.hbm Cert.KernelIdeal.S106496x128 EltTy.f32)
local notation "oV" => (Memref.whole Cert.KernelIdeal.main_v3_scv : Memref Cert.KernelIdeal.sig Kind.scVector Space.hbm Cert.KernelIdeal.S106496x8x16 EltTy.f32)
local notation "cV" => (Memref.whole Cert.KernelIdeal.cc1_scoped0 : Memref Cert.KernelIdeal.sig Kind.scVector Space.vmem Cert.KernelIdeal.S2x32x128 EltTy.f32)
local notation "dV" => (Memref.whole Cert.KernelIdeal.cc1_scoped2 : Memref Cert.KernelIdeal.sig Kind.scVector Space.vmem Cert.KernelIdeal.S2x32x8x16 EltTy.f32)

variable (m : (ℓ : Loc nD τ sig) → Buf (Elt F) ℓ) (d : Dev nD) (i : grid1.Coords)

/-- What the second call's loop carries into trip `t`. -/
def args1 (t : ℕ) : BitVec 32 × BitVec 32 × BitVec 32 × BitVec 32 × BitVec 32 := (aNext 104 t, aCur t, aCur t, aBack t, aPos 104 t)
/-- The number of the tile's first block, as the program computes it. -/
def x1 : BitVec 32 :=
  Scalar.muli (Scalar.addi (Scalar.addi 0#32 (Scalar.muli (BitVec.ofNat 32 (i 1).val) 1#32)) (Scalar.muli (BitVec.ofNat 32 (i 0).val) 16#32)) 104#32

/-- Slots come back every second trip. -/
theorem in_per1 {t u : ℕ} (h : t % 2 = u % 2) : (L1 m d i).inFree t = (L1 m d i).inFree u := by
  have hk : ∀ {o o' : Fin 3 → ℕ} (_ : o = o') (i i'), ((cV).slice (Rect.unit (s := S2x32x128) o S1x32x128.size i) (fun _ => rfl)).squeeze S32x128 squeezes_S1x32x128_S32x128
      = ((cV).slice (Rect.unit (s := S2x32x128) o' S1x32x128.size i') (fun _ => rfl)).squeeze S32x128 squeezes_S1x32x128_S32x128 := by rintro o _ rfl _ _; rfl
  have ha : cSl t = cSl u := hk (by rw [h]) _ _
  show iprop((∃ f, (cSl t).view.loc (thr1 d i) ↦[(cSl t).view.set]{fullShare} f) ∗ semVal (thr1 d i, .dma (semAt cc1_scoped1 t)) 0)
    = iprop((∃ f, (cSl u).view.loc (thr1 d i) ↦[(cSl u).view.set]{fullShare} f) ∗ semVal (thr1 d i, .dma (semAt cc1_scoped1 u)) 0)
  rw [ha, sem_per _ h]
theorem out_per1 {t u : ℕ} (h : t % 2 = u % 2) : (L1 m d i).outFree t = (L1 m d i).outFree u := by
  have hk : ∀ {o o' : Fin 4 → ℕ} (_ : o = o') (i i'), ((dV).slice (Rect.unit (s := S2x32x8x16) o S1x32x8x16.size i) (fun _ => rfl)).squeeze S32x8x16 squeezes_S1x32x8x16_S32x8x16
      = ((dV).slice (Rect.unit (s := S2x32x8x16) o' S1x32x8x16.size i') (fun _ => rfl)).squeeze S32x8x16 squeezes_S1x32x8x16_S32x8x16 := by rintro o _ rfl _ _; rfl
  have ha : dSl t = dSl u := hk (by rw [h]) _ _
  show iprop((∃ f, (dSl t).view.loc (thr1 d i) ↦[(dSl t).view.set]{fullShare} f) ∗ semVal (thr1 d i, .dma (semAt cc1_scoped3 t)) 0)
    = iprop((∃ f, (dSl u).view.loc (thr1 d i) ↦[(dSl u).view.set]{fullShare} f) ∗ semVal (thr1 d i, .dma (semAt cc1_scoped3 u)) 0)
  rw [ha, sem_per _ h]
theorem si_drop1 {t : ℕ} : (L1 m d i).si t ⊢ (L1 m d i).si0 t :=
  exists_intro (Φ := fun f => iprop((cSl t).view.loc (thr1 d i) ↦[(cSl t).view.set]{fullShare} f)) _
theorem so_start {t : ℕ} : (L1 m d i).so0 t ⊢ so1 m d i t 0 := by
  unfold so1; dsimp only [L1]
  iintro ⟨%f, H⟩
  iexists f
  isplitr; swap; · iexact H
  ipureintro; intro j _ h; omega

variable [FloatOps F]

section Steps

variable {defs : Defs nD τ sig (Elt F) Λ₀} {α : Type} {Q : α → sProp (MT nD τ sig (HIx 2) (Elt F) ℕ UU ℕ)}

/-- The fetch of the next block, where there is one. -/
theorem fetch1_if {t : ℕ} {c : Prop} {dc : Decidable c} (hc : c ↔ t + 1 < 104) {o1 : Fin 3 → ℕ} {o2 : Fin 2 → ℕ} {o3 : Fin 1 → ℕ}
    (h1 : t + 1 < 104 → o1 = ![(t + 1) % 2, 0, 0]) (h2 : t + 1 < 104 → o2 = ![32 * (w1 i (t + 1) % 3328), 0]) (h3 : t + 1 < 104 → o3 = ![(t + 1) % 2])
    {i1 : c → ∀ a, o1 a + S1x32x128.size a ≤ S2x32x128.size a} {i2 : c → ∀ a, o2 a + S32x128.size a ≤ S106496x128.size a} {i3 : c → ∀ a, o3 a + S1.size a ≤ S2.size a}
    {hsrc : ∀ h : c, ((gV).slice (Rect.unit (s := S106496x128) o2 S32x128.size (i2 h)) (fun _ => rfl)).view.WordExact} {hdst : ∀ h : c, (((cV).slice (Rect.unit (s := S2x32x128) o1 S1x32x128.size (i1 h)) (fun _ => rfl)).squeeze S32x128 squeezes_S1x32x128_S32x128).view.WordExact}
    {hsem : ∀ h : c, DmaTarget.Typed (nD := nD) .hbm (.dma ((cc1_scoped1.slice (Rect.unit (s := S2) o3 S1.size (i3 h))).squeeze S_ squeezes_S1_S_).sem) (DmaTarget.here (p := (thr1 d i).2) (((cV).slice (Rect.unit (s := S2x32x128) o1 S1x32x128.size (i1 h)) (fun _ => rfl)).squeeze S32x128 squeezes_S1x32x128_S32x128))}
    {K : Prog (TpuEff nD τ sig (Elt F) Λ₀ (thr1 d i).2) α} :
    iprop((L1 m d i).ins t ∗ (L1 m d i).inFree (t + 1))
      ⊢ iprop((((L1 m d i).insMid t ∗ (L1 m d i).inFl (t + 1)) -∗ wp frame (wpE defs 𝒱₀ (thr1 d i) none) Set.univ K Q)
          -∗ wp (M := 𝕄) frame (wpE defs 𝒱₀ (thr1 d i) none) Set.univ
            (@dite _ c dc (fun h => .op (.enqueueDmaAs ((gV).slice (Rect.unit (s := S106496x128) o2 S32x128.size (i2 h)) (fun _ => rfl))
              (.here (((cV).slice (Rect.unit (s := S2x32x128) o1 S1x32x128.size (i1 h)) (fun _ => rfl)).squeeze S32x128 squeezes_S1x32x128_S32x128)) .same
              (.dma ((cc1_scoped1.slice (Rect.unit (s := S2) o3 S1.size (i3 h))).squeeze S_ squeezes_S1_S_).sem) (hsrc h) (hdst h) (hsem h)) fun _ => K) (fun _ => K)) Q) := by
  by_cases h : c
  · have ht := hc.1 h
    rw [dif_pos h, Line.ins_take (L := L1 m d i) ht, Line.inFl_of_lt (L := L1 m d i) ht]
    iintro ⟨⟨Hb, Hr⟩, Hf⟩ Hk
    iapply (fetch1 m d i (h1 ht) (h2 ht) (h3 ht)) $$ [Hb Hf]
    · isplitl [Hb] <;> iassumption
    iintro Hg
    iapply Hk
    isplitl [Hr] <;> iassumption
  · have ht := mt hc.2 h
    rw [dif_neg h, Line.ins_end (L := L1 m d i) ht, Line.inFl_of_le (L := L1 m d i) ht]
    iintro H Hk
    iapply Hk
    iexact H

/-- The wait for the block written on the trip before, where there was one. -/
theorem drain1_if {t : ℕ} {O : CellTallies nD τ sig (HIx 2)} {W : Waits sig (HIx 2)} {c : Prop} {dc : Decidable c} (hc : c ↔ 0 < t) {o1 : Fin 4 → ℕ} {o2 : Fin 3 → ℕ} {o3 : Fin 1 → ℕ}
    (h3 : 0 < t → o3 = ![(t - 1) % 2])
    {i1 : c → ∀ a, o1 a + S1x32x8x16.size a ≤ S2x32x8x16.size a} {i2 : c → ∀ a, o2 a + S32x8x16.size a ≤ S106496x8x16.size a} {i3 : c → ∀ a, o3 a + S1.size a ≤ S2.size a}
    {hsrc : ∀ h : c, (((dV).slice (Rect.unit (s := S2x32x8x16) o1 S1x32x8x16.size (i1 h)) (fun _ => rfl)).squeeze S32x8x16 squeezes_S1x32x8x16_S32x8x16).view.WordExact} {hdst : ∀ h : c, ((oV).slice (Rect.unit (s := S106496x8x16) o2 S32x8x16.size (i2 h)) (fun _ => rfl)).view.WordExact}
    {K : Prog (TpuEff nD τ sig (Elt F) Λ₀ (thr1 d i).2) α} :
    iprop((L1 m d i).outFl t ∗ (L1 m d i).outs1 t ∗ owed (F := F) (thr1 d i) O W ∗ Transfers.MayWaits (thr1 d i) (default : HIx 2) O)
      ⊢ iprop((((L1 m d i).outFree (t + 1) ∗ (L1 m d i).outs1 (t + 1) ∗ owed (F := F) (thr1 d i) O W) -∗ wp frame (wpE defs 𝒱₀ (thr1 d i) none) Set.univ K Q)
          -∗ wp (M := 𝕄) frame (wpE defs 𝒱₀ (thr1 d i) none) Set.univ
            (@dite _ c dc (fun h => .op (.waitDma2 ((cc1_scoped3.slice (Rect.unit (s := S2) o3 S1.size (i3 h))).squeeze S_ squeezes_S1_S_).sem
              (((dV).slice (Rect.unit (s := S2x32x8x16) o1 S1x32x8x16.size (i1 h)) (fun _ => rfl)).squeeze S32x8x16 squeezes_S1x32x8x16_S32x8x16)
              ((oV).slice (Rect.unit (s := S106496x8x16) o2 S32x8x16.size (i2 h)) (fun _ => rfl)) (hsrc h) (hdst h)) fun _ => K) (fun _ => K)) Q) := by
  by_cases h : c
  · have ht := hc.1 h
    rw [dif_pos h, Line.outFl_of_pos (L := L1 m d i) ht, Line.outs1_put (L := L1 m d i) ht]
    unfold owed Line.outGo
    iintro ⟨Hg, Ho, ⟨%W', %hW', HO⟩, Hm⟩ Hk
    iapply (wait_step (thr1 d i) (sem_eq (s := cc1_scoped3) (t := t - 1) (h3 ht)) (N := (L1 m d i).nOut) rfl) $$ [Hg HO Hm]
    · isplitl [Hg]; · iexact Hg
      isplitl [HO]; · iexact HO
      iexact Hm
    iintro ⟨⟨Hb, Hs⟩, Hv, HO⟩
    iapply Hk
    isplitl [Hs Hv]
    · rw [show (L1 m d i).outFree (t + 1) = (L1 m d i).outFree (t - 1) from out_per1 m d i (by omega)]
      unfold Line.outFree
      isplitl [Hs]; · iexact Hs
      iexact Hv
    isplitl [Hb Ho]; · isplitl [Hb] <;> iassumption
    iapply (show _ ⊢ iprop(∃ W', ⌜∀ p ∈ W', p ∈ W ∨ p.2 = none⌝ ∗ owes (thr1 d i) O W') from owed_insert (thr1 d i) hW') $$ HO
  · have ht : ¬ 0 < t := mt hc.2 h
    obtain rfl : t = 0 := by omega
    rw [dif_neg h, Line.outFl_zero (L := L1 m d i)]
    iintro ⟨Hg, Ho, HO, -⟩ Hk
    iapply Hk
    isplitl [Hg]; · iexact Hg
    isplitl [Ho]; · iexact Ho
    iexact HO

end Steps

/-- The loop's invariant. -/
def inv1 (O : CellTallies nD τ sig (HIx 2)) (W : Waits sig (HIx 2)) (t : ℕ) (acc : BitVec 32 × BitVec 32 × BitVec 32 × BitVec 32 × BitVec 32) : sProp 𝕄 :=
  iprop(⌜acc = args1 t⌝ ∗ (L1 m d i).state t ∗ owed (F := F) (thr1 d i) O W ∗ Transfers.MayWaits (thr1 d i) (default : HIx 2) O)
/-- The inner loop's invariant. -/
def inv2 (t : ℕ) (k : ℕ) (_ : Unit) : sProp 𝕄 := iprop((L1 m d i).si t ∗ so1 m d i t (32 * k))

theorem inv2_end {t : ℕ} {u : Unit} : inv2 m d i t (Scf.trips k1_t2_loop.lb k1_t2_loop.ub k1_t2_loop.st) u ⊢ iprop((L1 m d i).si t ∗ so1 m d i t 256) :=
  Entails.of_eq (by unfold inv2; rw [show Scf.trips k1_t2_loop.lb k1_t2_loop.ub k1_t2_loop.st = 8 from k1_trips2])

/-- What the loop leaves. -/
theorem inv1_end {O : CellTallies nD τ sig (HIx 2)} {W : Waits sig (HIx 2)} {acc : BitVec 32 × BitVec 32 × BitVec 32 × BitVec 32 × BitVec 32} :
    inv1 m d i O W 104 acc ⊢ iprop(⌜acc = args1 104⌝ ∗ (L1 m d i).inFree 104 ∗ (L1 m d i).inFree 105 ∗ (L1 m d i).outFree 104
      ∗ Transfers.Flight countersEmb (thr1 d i) (SemLoc.dma (semAt cc1_scoped3 103)) (default : HIx 2) (L1 m d i).nOut iprop((L1 m d i).bo1 103 ∗ (L1 m d i).so0 103)
      ∗ bigSep (Finset.range 104) (L1 m d i).bi ∗ (L1 m d i).outs1 104 ∗ owed (F := F) (thr1 d i) O W) := by
  unfold inv1 Line.state
  rw [Line.inFl_of_le (L := L1 m d i) (t := 104) (show ¬ 104 < 104 by omega), Line.outFl_of_pos (L := L1 m d i) (t := 104) (by omega)]
  iintro ⟨%h, ⟨Hi1, Hi0, Ho1, Hgo, Hbi, -, Ho⟩, HO, -⟩
  isplitr; · ipureintro; exact h
  isplitl [Hi1]; · iexact Hi1
  isplitl [Hi0]; · iexact Hi0
  isplitl [Ho1]; · iexact Ho1
  isplitl [Hgo]; · unfold Line.outGo; iexact Hgo
  isplitl [Hbi]; · iapply (Entails.of_eq (show (L1 m d i).ins 104 = bigSep (Finset.range 104) (L1 m d i).bi from Line.ins_last (L := L1 m d i))); iexact Hbi
  isplitl [Ho]; · iexact Ho
  iexact HO

set_option maxHeartbeats 4000000 in
/-- One trip. -/
theorem trip1 (O : CellTallies nD τ sig (HIx 2)) (W : Waits sig (HIx 2)) (t : Fin k1_t1_loop.trips) :
    iprop((L1 m d i).state t.val ∗ owed (F := F) (thr1 d i) O W ∗ Transfers.MayWaits (thr1 d i) (default : HIx 2) O)
      ⊢ wp (M := 𝕄) frame (wpE (defs₀ (F := F)) 𝒱₀ (thr1 d i) none) Set.univ
          (k1_t1_body i gV (Memref.isWhole_whole _) oV (Memref.isWhole_whole _)
            cV (Memref.isWhole_whole _) cc1_scoped1 dV (Memref.isWhole_whole _) cc1_scoped3 (x1 i) t (args1 t.val))
          (inv1 m d i O W (t.val + 1)) := by
  have ht : t.val < 104 := lt_of_lt_of_eq t.isLt k1_trips
  unfold k1_t1_body args1
  dsimp only
  simp only [k1_part16_eq_skeleton]; unfold k1_part16_skel
  simp only [wp_bind, Prog.lift, Prog.bind_op, Prog.bind_ret, Prog.pure_eq_ret, Prog.bind_assoc]
  unfold inv1 Line.state
  rw [Line.inFl_of_lt (L := L1 m d i) ht]
  unfold Line.inGo
  iintro ⟨⟨Hfl, Hfr, Hof, Hol, Hin, Ho0, Ho1⟩, HO, #Hm⟩
  iapply (wp_assume _ _ _ _ (k1_chk3_ok t))
  iapply (wp_assume _ _ _ _ (k1_chk2_ok t))
  iapply (wp_assume _ _ _ _ (k1_chk1_ok i t))
  dsimp only
  rw [wp_bind]
  iapply (fetch1_if m d i (k1_cond1_iff i t) (k1_off4_at t) (k1_off5_at i t) (k1_off6_at t)) $$ [Hin Hfr]
  · isplitl [Hin] <;> iassumption
  iintro ⟨Hin, Hnx⟩
  rw [wp_ret]; imodintro
  dsimp only
  simp only [k1_part17_eq_skeleton]; unfold k1_part17_skel
  simp only [wp_bind, Prog.lift, Prog.bind_op, Prog.bind_ret, Prog.pure_eq_ret, Prog.bind_assoc, ite_self]
  rw [dif_pos (k1_cond2_eq i t)]
  -- THE BLOCK'S ROWS ARE IN
  ihave HO := (owed_open (thr1 d i)) $$ HO
  icases HO with ⟨%W1, %hW1, HO⟩
  ihave Hof := (Line.outFree_open (L := L1 m d i)) $$ Hof
  icases Hof with ⟨Hso, Hov⟩
  iapply (wait_step (thr1 d i) (sem_eq (s := cc1_scoped1) (t := t.val) (k1_off9_at t)) (N := (L1 m d i).nIn) rfl) $$ [Hfl HO]
  · isplitl [Hfl]; · iexact Hfl
    isplitl [HO]; · iexact HO
    iexact Hm
  iintro ⟨⟨Hsi, Hbi⟩, Hiv, HO⟩
  dsimp only
  -- ITS ROWS, FOUR AT A TIME
  sl_for (inv2 m d i t.val) $$ [Hsi Hso]
  · intro k acc
    sl_respell []
    exact trip2 m d i t k
  · unfold inv2
    isplitl [Hsi]; · iexact Hsi
    iapply (so_start m d i) $$ Hso
  iintro %acc H
  ihave H := (inv2_end m d i) $$ H
  icases H with ⟨Hsi, Hso⟩
  sl_respell []
  -- THE BLOCK ON ITS WAY OUT
  rw [dif_pos (k1_cond5_eq i t)]
  ihave Ho0 := (Entails.of_eq (Line.outs0_take (L := L1 m d i) ht)) $$ Ho0
  icases Ho0 with ⟨Hbo, Ho0⟩
  iapply (flush1 m d i (t := t.val) (k1_off23_at t) (k1_off24_at i t) (k1_off25_at t)) $$ [Hso Hbo Hov]
  · isplitl [Hso]; · iexact Hso
    isplitl [Hbo]; · iexact Hbo
    iexact Hov
  iintro Hgo
  rw [wp_ret]; imodintro
  dsimp only
  iapply (drain1_if m d i (t := t.val) (W := W) (k1_cond7_iff i t) (fun h => (k1_off28_at t h).trans (by rw [show (t.val + 1) % 2 = (t.val - 1) % 2 by omega]))) $$ [Hol Ho1 HO]
  · isplitl [Hol]; · iexact Hol
    isplitl [Ho1]; · iexact Ho1
    isplitl [HO]; · iapply (owed_insert (thr1 d i) hW1) $$ HO
    iexact Hm
  iintro ⟨Hof, Ho1, HO⟩
  rw [wp_ret]; imodintro
  isplitr
  · ipureintro
    unfold x1
    revert t i; decide +kernel
  isplitr [HO]
  · rw [Line.outFl_succ, Line.ins_put (L := L1 m d i) ht, show (L1 m d i).inFree (t.val + 1 + 1) = (L1 m d i).inFree t.val from in_per1 m d i (by omega)]
    isplitl [Hnx]; · iexact Hnx
    isplitl [Hsi Hiv]
    · iapply (Line.inFree_close (L := L1 m d i))
      isplitl [Hsi]; · iapply (si_drop1 m d i) $$ Hsi
      iexact Hiv
    isplitl [Hof]; · iexact Hof
    isplitl [Hgo]; · iexact Hgo
    isplitl [Hbi Hin]; · isplitl [Hbi] <;> iassumption
    isplitl [Ho0]; · iexact Ho0
    iexact Ho1
  isplitl [HO]; · iexact HO
  iexact Hm

set_option maxHeartbeats 4000000 in
/-- The whole pipeline: from the tile's blocks of gathered rows, its blocks of rows in pieces. -/
theorem pipe1 (O : CellTallies nD τ sig (HIx 2)) (W : Waits sig (HIx 2)) :
    iprop((L1 m d i).inFree 0 ∗ (L1 m d i).inFree 1 ∗ (L1 m d i).outFree 0 ∗ (L1 m d i).outFree 1
        ∗ bigSep (Finset.range 104) (L1 m d i).bi ∗ bigSep (Finset.range 104) (L1 m d i).bo0
        ∗ owes (thr1 d i) O W ∗ Transfers.MayWaits (thr1 d i) (default : HIx 2) O)
      ⊢ wp (M := 𝕄) frame (wpE (defs₀ (F := F)) 𝒱₀ (thr1 d i) none) Set.univ
          (cc1_sc_format i gV (Memref.isWhole_whole _) oV (Memref.isWhole_whole _)
            cV (Memref.isWhole_whole _) cc1_scoped1 dV (Memref.isWhole_whole _) cc1_scoped3)
          fun _ => iprop((L1 m d i).inFree 0 ∗ (L1 m d i).inFree 1 ∗ (L1 m d i).outFree 0 ∗ (L1 m d i).outFree 1
            ∗ bigSep (Finset.range 104) (L1 m d i).bi ∗ bigSep (Finset.range 104) (L1 m d i).bo1
            ∗ owed (F := F) (thr1 d i) O W) := by
  simp only [cc1_sc_format_eq_skeleton]; unfold cc1_sc_format_skel
  simp only [k1_part18_eq_skeleton, k1_part19_eq_skeleton]; unfold k1_part18_skel k1_part19_skel
  simp only [wp_bind, Prog.lift, Prog.bind_op, Prog.bind_ret, Prog.pure_eq_ret, Prog.bind_assoc]
  iintro ⟨Hi0, Hi1, Ho0, Ho1, Hbi, Hbo, HO, #Hm⟩
  ihave Hbi := (Entails.of_eq (show bigSep (Finset.range 104) (L1 m d i).bi = _ from Line.ins_first (L := L1 m d i) (by show 0 < 104; omega))) $$ Hbi
  icases Hbi with ⟨Hb0, Hbi⟩
  iapply (fetch1 m d i (t := 0) k1_off1_at (k1_off2_at i) k1_off3_at) $$ [Hb0 Hi0]
  · isplitl [Hb0] <;> iassumption
  iintro Hg0
  sl_for (inv1 m d i O W) $$ [Hg0 Hi1 Ho0 Ho1 Hbi Hbo HO]
  · intro k acc
    sl_respell []
    unfold inv1
    iintro ⟨%h, H⟩
    subst h
    iapply (trip1 m d i O W k) $$ H
  · unfold inv1 Line.state
    rw [Line.inFl_of_lt (L := L1 m d i) (show 0 < 104 by omega), Line.outFl_zero (L := L1 m d i), Line.outs0_first (L := L1 m d i), Line.outs1_zero (L := L1 m d i)]
    isplitr; · ipureintro; decide
    isplitr [HO]
    · isplitl [Hg0]; · iexact Hg0
      isplitl [Hi1]; · iexact Hi1
      isplitl [Ho0]; · iexact Ho0
      isplitl [Ho1]; · iexact Ho1
      isplitl [Hbi]; · iexact Hbi
      isplitl [Hbo]; · iexact Hbo
      iempintro
    isplitl [HO]; · iapply (owed_start (thr1 d i)) $$ HO
    iexact Hm
  iintro %acc HI
  ihave HI := (Entails.of_eq (show inv1 m d i O W (Scf.trips k1_t1_loop.lb k1_t1_loop.ub k1_t1_loop.st) acc = inv1 m d i O W 104 acc from
    congrArg (fun n => inv1 m d i O W n acc) k1_trips)) $$ HI
  ihave HI := (inv1_end m d i) $$ HI
  icases HI with ⟨%h, Hi1, Hi0, Ho1, Hgo, Hbi, Ho1s, HO⟩
  subst h
  sl_respell []
  iapply (wp_assume _ _ _ _ (k1_chk5_ok i))
  iapply (wp_assume _ _ _ _ k1_chk4_ok)
  dsimp only
  ihave HO := (owed_open (thr1 d i)) $$ HO
  icases HO with ⟨%W1, %hW1, HO⟩
  iapply (wait_step (thr1 d i) (sem_eq (s := cc1_scoped3) (t := 103) k1_off31_at) (N := (L1 m d i).nOut) rfl) $$ [Hgo HO]
  · isplitl [Hgo]; · iexact Hgo
    isplitl [HO]; · iexact HO
    iexact Hm
  iintro ⟨⟨Hb1, Hs⟩, Hv, HO⟩
  rw [wp_ret]; imodintro
  rw [show (L1 m d i).inFree 0 = (L1 m d i).inFree 104 from in_per1 m d i (by omega), show (L1 m d i).inFree 1 = (L1 m d i).inFree 105 from in_per1 m d i (by omega),
    show (L1 m d i).outFree 0 = (L1 m d i).outFree 104 from out_per1 m d i (by omega), show (L1 m d i).outFree 1 = (L1 m d i).outFree 103 from out_per1 m d i (by omega)]
  isplitl [Hi1]; · iexact Hi1
  isplitl [Hi0]; · iexact Hi0
  isplitl [Ho1]; · iexact Ho1
  isplitl [Hs Hv]; · iapply (Line.outFree_close (L := L1 m d i)); isplitl [Hs]; · iexact Hs
                     iexact Hv
  isplitl [Hbi]; · iexact Hbi
  isplitl [Hb1 Ho1s]
  · iapply (Entails.of_eq (show iprop((L1 m d i).bo1 103 ∗ (L1 m d i).outs1 104) = bigSep (Finset.range 104) (L1 m d i).bo1 from (Line.outs1_put (L := L1 m d i) (t := 104) (by omega)).symm))
    isplitl [Hb1]; · iexact Hb1
    iexact Ho1s
  iapply (owed_insert (thr1 d i) hW1) $$ HO

end Cert.Proof.Rows

end
-- ==== Proof.Bufs.lean ====
/-
  A tile's whole task in each call: its share of the arrays, its own buffers cut in slots, its semaphores, and the
  pipeline run over them.
-/
module

public import proofs.«01_k».proof.Proof.Tile1

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ
local notation "tV" => (Memref.whole Cert.KernelIdeal.main_v0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S1x106496 EltTy.i32)
local notation "gV" => (Memref.whole Cert.KernelIdeal.main_v2_scv : Memref Cert.KernelIdeal.sig Kind.scVector Space.hbm Cert.KernelIdeal.S106496x128 EltTy.f32)
local notation "oV" => (Memref.whole Cert.KernelIdeal.main_v3_scv : Memref Cert.KernelIdeal.sig Kind.scVector Space.hbm Cert.KernelIdeal.S106496x8x16 EltTy.f32)
local notation "aV" => (Memref.whole Cert.KernelIdeal.cc0_scoped0 : Memref Cert.KernelIdeal.sig Kind.scVector Space.vmem Cert.KernelIdeal.S2x1x256 EltTy.i32)
local notation "bV" => (Memref.whole Cert.KernelIdeal.cc0_scoped2 : Memref Cert.KernelIdeal.sig Kind.scVector Space.vmem Cert.KernelIdeal.S2x256x128 EltTy.f32)
local notation "cV" => (Memref.whole Cert.KernelIdeal.cc1_scoped0 : Memref Cert.KernelIdeal.sig Kind.scVector Space.vmem Cert.KernelIdeal.S2x32x128 EltTy.f32)
local notation "dV" => (Memref.whole Cert.KernelIdeal.cc1_scoped2 : Memref Cert.KernelIdeal.sig Kind.scVector Space.vmem Cert.KernelIdeal.S2x32x8x16 EltTy.f32)

/-! ## Taking a few members out of a family -/

/-- The members of a list, one after the other, before `R`. -/
def listed {I : Type} (Φ : I → sProp (MM F)) (R : sProp (MM F)) : List I → sProp (MM F)
  | [] => R
  | a :: l => iprop(Φ a ∗ listed Φ R l)

/-- A family is the members of a list in it and the rest. -/
theorem take_listed {I : Type} [DecidableEq I] (Φ : I → sProp (MM F)) : ∀ (l : List I) (s : Finset I), l.Nodup → (∀ a ∈ l, a ∈ s) →
    bigSep s Φ = listed Φ (bigSep (s \ l.toFinset) Φ) l
  | [], s, _, _ => by rw [List.toFinset_nil, Finset.sdiff_empty]; rfl
  | a :: l, s, hn, hs => by
    have hn' := List.nodup_cons.mp hn
    rw [SparseCore.bigSep_erase' (hs a List.mem_cons_self), take_listed Φ l (s.erase a) hn'.2
      (fun b hb => Finset.mem_erase.mpr ⟨fun e => hn'.1 (e ▸ hb), hs b (List.mem_cons_of_mem _ hb)⟩)]
    rw [show s.erase a \ l.toFinset = s \ (a :: l).toFinset by
      ext x; simp only [Finset.mem_sdiff, Finset.mem_erase, List.mem_toFinset, List.mem_cons, not_or]; tauto]
    rfl

/-- A buffer held whole is its two halves held, -/
theorem slots_split {ℓ : Loc nD τ sig} {A B : Finset (Idx ℓ)} (hd : Disjoint A B) (hc : A ∪ B = Finset.univ) :
    (iprop(∃ f, ℓ ↦{fullShare} f) : sProp 𝕄) ⊢ iprop((∃ f, ℓ ↦[A]{fullShare} f) ∗ ∃ f, ℓ ↦[B]{fullShare} f) := by
  iintro ⟨%f, H⟩
  ihave H := (show (ℓ ↦{fullShare} f : sProp 𝕄) ⊢ iprop((ℓ ↦[A]{fullShare} f) ∗ ℓ ↦[B]{fullShare} f) by
    rw [← hc]; exact (pointsTo_union hd).1) $$ H
  icases H with ⟨HA, HB⟩
  isplitl [HA]
  · iexists f; iexact HA
  · iexists f; iexact HB
/-- and back. -/
theorem slots_join {ℓ : Loc nD τ sig} {A B : Finset (Idx ℓ)} (hd : Disjoint A B) (hc : A ∪ B = Finset.univ) :
    iprop((∃ f, ℓ ↦[A]{fullShare} f) ∗ ∃ f, ℓ ↦[B]{fullShare} f) ⊢ (iprop(∃ f, ℓ ↦{fullShare} f) : sProp 𝕄) := by
  iintro ⟨⟨%f, HA⟩, %g, HB⟩
  iexists B.piecewise g f
  ihave H := (show iprop((ℓ ↦[A]{fullShare} f) ∗ ℓ ↦[B]{fullShare} g) ⊢ (ℓ ↦{fullShare} B.piecewise g f : sProp 𝕄) by
    rw [← hc]; exact pointsTo_join hd) $$ [HA HB]
  · isplitl [HA] <;> iassumption
  iexact H

/-! ## The slots of each buffer -/

theorem aSl_disjoint : Disjoint (aSl 0).view.set (aSl 1).view.set := by
  rw [Finset.disjoint_left]
  intro k h0 h1
  obtain ⟨x, -, rfl⟩ := Finset.mem_map.mp h0
  obtain ⟨y, -, e⟩ := Finset.mem_map.mp h1
  rw [aSl_emb, aSl_emb] at e
  exact absurd (congrArg Fin.val (congrFun e 0)) (show ¬ (1 % 2 = 0 % 2) by decide)
theorem aSl_cover : (aSl 0).view.set ∪ (aSl 1).view.set = Finset.univ := by
  refine Finset.eq_univ_of_forall fun k => ?_
  have hk : (k 0).val < 2 := (k 0).isLt
  rw [Finset.mem_union]
  rcases (show (k 0).val = 0 ∨ (k 0).val = 1 by omega) with h | h
  · refine .inl (Finset.mem_map.mpr ⟨ix2 (n0 := 1) (n1 := 256) 0 (k 2), Finset.mem_univ _, (aSl_emb 0 _).trans ?_⟩)
    funext a
    match a with
    | 0 => exact Fin.ext h.symm
    | 1 => exact (Subsingleton.elim (α := Fin 1) _ _)
    | 2 => rfl
  · refine .inr (Finset.mem_map.mpr ⟨ix2 (n0 := 1) (n1 := 256) 0 (k 2), Finset.mem_univ _, (aSl_emb 1 _).trans ?_⟩)
    funext a
    match a with
    | 0 => exact Fin.ext h.symm
    | 1 => exact (Subsingleton.elim (α := Fin 1) _ _)
    | 2 => rfl

theorem bSl_disjoint : Disjoint (bSl 0).view.set (bSl 1).view.set := by
  rw [Finset.disjoint_left]
  intro k h0 h1
  obtain ⟨x, -, rfl⟩ := Finset.mem_map.mp h0
  obtain ⟨y, -, e⟩ := Finset.mem_map.mp h1
  rw [bSl_emb, bSl_emb] at e
  exact absurd (congrArg Fin.val (congrFun e 0)) (show ¬ (1 % 2 = 0 % 2) by decide)
theorem bSl_cover : (bSl 0).view.set ∪ (bSl 1).view.set = Finset.univ := by
  refine Finset.eq_univ_of_forall fun k => ?_
  have hk : (k 0).val < 2 := (k 0).isLt
  rw [Finset.mem_union]
  rcases (show (k 0).val = 0 ∨ (k 0).val = 1 by omega) with h | h
  · refine .inl (Finset.mem_map.mpr ⟨ix2 (n0 := 256) (n1 := 128) (k 1) (k 2), Finset.mem_univ _, (bSl_emb 0 _).trans ?_⟩)
    funext a
    match a with
    | 0 => exact Fin.ext h.symm
    | 1 => rfl
    | 2 => rfl
  · refine .inr (Finset.mem_map.mpr ⟨ix2 (n0 := 256) (n1 := 128) (k 1) (k 2), Finset.mem_univ _, (bSl_emb 1 _).trans ?_⟩)
    funext a
    match a with
    | 0 => exact Fin.ext h.symm
    | 1 => rfl
    | 2 => rfl

theorem cSl_disjoint : Disjoint (cSl 0).view.set (cSl 1).view.set := by
  rw [Finset.disjoint_left]
  intro k h0 h1
  obtain ⟨x, -, rfl⟩ := Finset.mem_map.mp h0
  obtain ⟨y, -, e⟩ := Finset.mem_map.mp h1
  rw [cSl_emb, cSl_emb] at e
  exact absurd (congrArg Fin.val (congrFun e 0)) (show ¬ (1 % 2 = 0 % 2) by decide)
theorem cSl_cover : (cSl 0).view.set ∪ (cSl 1).view.set = Finset.univ := by
  refine Finset.eq_univ_of_forall fun k => ?_
  have hk : (k 0).val < 2 := (k 0).isLt
  rw [Finset.mem_union]
  rcases (show (k 0).val = 0 ∨ (k 0).val = 1 by omega) with h | h
  · refine .inl (Finset.mem_map.mpr ⟨ix2 (n0 := 32) (n1 := 128) (k 1) (k 2), Finset.mem_univ _, (cSl_emb 0 _).trans ?_⟩)
    funext a
    match a with
    | 0 => exact Fin.ext h.symm
    | 1 => rfl
    | 2 => rfl
  · refine .inr (Finset.mem_map.mpr ⟨ix2 (n0 := 32) (n1 := 128) (k 1) (k 2), Finset.mem_univ _, (cSl_emb 1 _).trans ?_⟩)
    funext a
    match a with
    | 0 => exact Fin.ext h.symm
    | 1 => rfl
    | 2 => rfl

theorem dSl_disjoint : Disjoint (dSl 0).view.set (dSl 1).view.set := by
  rw [Finset.disjoint_left]
  intro k h0 h1
  obtain ⟨x, -, rfl⟩ := Finset.mem_map.mp h0
  obtain ⟨y, -, e⟩ := Finset.mem_map.mp h1
  rw [dSl_emb, dSl_emb] at e
  exact absurd (congrArg Fin.val (congrFun e 0)) (show ¬ (1 % 2 = 0 % 2) by decide)
theorem dSl_cover : (dSl 0).view.set ∪ (dSl 1).view.set = Finset.univ := by
  refine Finset.eq_univ_of_forall fun k => ?_
  have hk : (k 0).val < 2 := (k 0).isLt
  rw [Finset.mem_union]
  rcases (show (k 0).val = 0 ∨ (k 0).val = 1 by omega) with h | h
  · refine .inl (Finset.mem_map.mpr ⟨ix3 (n0 := 32) (n1 := 8) (n2 := 16) (k 1) (k 2) (k 3), Finset.mem_univ _, (dSl_emb 0 _).trans ?_⟩)
    funext a
    match a with
    | 0 => exact Fin.ext h.symm
    | 1 => rfl
    | 2 => rfl
    | 3 => rfl
  · refine .inr (Finset.mem_map.mpr ⟨ix3 (n0 := 32) (n1 := 8) (n2 := 16) (k 1) (k 2) (k 3), Finset.mem_univ _, (dSl_emb 1 _).trans ?_⟩)
    funext a
    match a with
    | 0 => exact Fin.ext h.symm
    | 1 => rfl
    | 2 => rfl
    | 3 => rfl

/-! ## A subcore's semaphores and buffers -/

section Own

variable (d : Dev nD) (c : Fin τ.nSC) (s : Fin τ.nSub)

/-- The semaphores the first call uses; -/
def sems0 : List (GSem nD τ sig) :=
  [semAt cc0_scoped1 0, semAt cc0_scoped1 1, semAt cc0_scoped3 0, semAt cc0_scoped3 1, cc0_scoped4.sem].map fun x => (V d c s, SemLoc.dma x)
/-- the second call's. -/
def sems1 : List (GSem nD τ sig) :=
  [semAt cc1_scoped1 0, semAt cc1_scoped1 1, semAt cc1_scoped3 0, semAt cc1_scoped3 1].map fun x => (V d c s, SemLoc.dma x)

theorem ownSems_0 : (ownSems0 (V d c s) : sProp 𝕄)
    = listed (fun g => semVal g 0) (bigSep (ownCells (V d c s) \ (sems0 d c s).toFinset) fun g => semVal g 0) (sems0 d c s) := by
  unfold ownSems0
  refine take_listed _ _ _ (List.Nodup.map (fun x y e => ?_) (by decide)) ?_
  · exact SemLoc.dma.inj (congrArg Prod.snd e)
  · intro a ha
    obtain ⟨x, -, rfl⟩ := List.mem_map.mp ha
    exact mem_ownCells.mpr ⟨rfl, rfl⟩
theorem ownSems_1 : (ownSems0 (V d c s) : sProp 𝕄)
    = listed (fun g => semVal g 0) (bigSep (ownCells (V d c s) \ (sems1 d c s).toFinset) fun g => semVal g 0) (sems1 d c s) := by
  unfold ownSems0
  refine take_listed _ _ _ (List.Nodup.map (fun x y e => ?_) (by decide)) ?_
  · exact SemLoc.dma.inj (congrArg Prod.snd e)
  · intro a ha
    obtain ⟨x, -, rfl⟩ := List.mem_map.mp ha
    exact mem_ownCells.mpr ⟨rfl, rfl⟩

/-- The buffers the first call uses; -/
def bufs0 : List (DevRef τ sig) := [cc0_scoped0, cc0_scoped2].map (Proc.scVector c s).devRef
/-- the second call's. -/
def bufs1 : List (DevRef τ sig) := [cc1_scoped0, cc1_scoped2].map (Proc.scVector c s).devRef

theorem ownBufs_0 : (ownBufs (V d c s) : sProp 𝕄)
    = listed (fun b => iprop(∃ f, ((d, b) : Loc nD τ sig) ↦{fullShare} f))
        (bigSep (ownRefs (τ := τ) (.scVector c s) \ (bufs0 c s).toFinset) fun b => iprop(∃ f, ((d, b) : Loc nD τ sig) ↦{fullShare} f)) (bufs0 c s) := by
  unfold ownBufs
  refine take_listed _ _ _ (List.Nodup.map (Proc.devRef_injective _) (show ([cc0_scoped0, cc0_scoped2] : List (Ref sig .scVector)).Nodup by decide)) ?_
  intro a ha
  rcases List.mem_cons.mp ha with rfl | ha
  · exact SparseCore.Cfg.mem_ownRefs_of_owner (p := Proc.scVector c s) rfl
  · rcases List.mem_cons.mp ha with rfl | ha
    · exact SparseCore.Cfg.mem_ownRefs_of_owner (p := Proc.scVector c s) rfl
    · exact nomatch ha
theorem ownBufs_1 : (ownBufs (V d c s) : sProp 𝕄)
    = listed (fun b => iprop(∃ f, ((d, b) : Loc nD τ sig) ↦{fullShare} f))
        (bigSep (ownRefs (τ := τ) (.scVector c s) \ (bufs1 c s).toFinset) fun b => iprop(∃ f, ((d, b) : Loc nD τ sig) ↦{fullShare} f)) (bufs1 c s) := by
  unfold ownBufs
  refine take_listed _ _ _ (List.Nodup.map (Proc.devRef_injective _) (show ([cc1_scoped0, cc1_scoped2] : List (Ref sig .scVector)).Nodup by decide)) ?_
  intro a ha
  rcases List.mem_cons.mp ha with rfl | ha
  · exact SparseCore.Cfg.mem_ownRefs_of_owner (p := Proc.scVector c s) rfl
  · rcases List.mem_cons.mp ha with rfl | ha
    · exact SparseCore.Cfg.mem_ownRefs_of_owner (p := Proc.scVector c s) rfl
    · exact nomatch ha

end Own

/-! ## The whole task -/

section Task

variable (m : (ℓ : Loc nD τ sig) → Buf (Elt F) ℓ) (d : Dev nD)

/-- What a tile brings to the first call: its blocks of row numbers, its blocks of the gathered rows at any contents, a
    share of the table; -/
def go0 (i : grid0.Coords) (q : PosShare TreeShare) : sProp 𝕄 :=
  iprop((bigSep (Finset.range 13) fun t => v1Loc d ↦[(iBlk (w0 i t)).view.set]{fullShare} V1 m d)
    ∗ (bigSep (Finset.range 13) fun t => iprop(∃ f, v2Loc d ↦[(gBlk (w0 i t)).view.set]{fullShare} f))
    ∗ (v0Loc d ↦{q} V0 m d))
/-- what it brings back: the blocks of gathered rows hold them. -/
def td0 (i : grid0.Coords) (q : PosShare TreeShare) : sProp 𝕄 :=
  iprop((bigSep (Finset.range 13) fun t => v1Loc d ↦[(iBlk (w0 i t)).view.set]{fullShare} V1 m d)
    ∗ (bigSep (Finset.range 13) fun t => v2Loc d ↦[(gBlk (w0 i t)).view.set]{fullShare} V2 m d)
    ∗ (v0Loc d ↦{q} V0 m d))
/-- What a tile brings to the second call: its blocks of the gathered rows, its blocks of the result at any contents; -/
def go1 (i : grid1.Coords) : sProp 𝕄 :=
  iprop((bigSep (Finset.range 104) fun t => v2Loc d ↦[(fBlk (w1 i t)).view.set]{fullShare} V2 m d)
    ∗ (bigSep (Finset.range 104) fun t => iprop(∃ f, v3Loc d ↦[(oBlk (w1 i t)).view.set]{fullShare} f)))
/-- what it brings back: the blocks of the result hold the rows in pieces. -/
def td1 (i : grid1.Coords) : sProp 𝕄 :=
  iprop((bigSep (Finset.range 104) fun t => v2Loc d ↦[(fBlk (w1 i t)).view.set]{fullShare} V2 m d)
    ∗ (bigSep (Finset.range 104) fun t => v3Loc d ↦[(oBlk (w1 i t)).view.set]{fullShare} V3 m d))

variable [FloatOps F]

/-- A tile's task in the first call. -/
theorem tile_body0 (hF : (K (F := F)).Facts) (hpre : PreOK m) (i : grid0.Coords) (q : PosShare TreeShare)
    (O : CellTallies nD τ sig (HIx 2)) (W : Waits sig (HIx 2)) (hO : ∀ g, O g none = 0) :
    iprop(levAts (K (F := F)).L (K (F := F)).lev ∗ emp ∗ go0 m d i q
        ∗ scopedBufs (thr0 d i) ∗ scopedSems0 (thr0 d i) ∗ owes (thr0 d i) O W)
      ⊢ wp (M := 𝕄) frame (wpE (defs₀ (F := F)) 𝒱₀ (thr0 d i) none) Set.univ
          (cc0_sc_gather i tV (Memref.isWhole_whole _) iV (Memref.isWhole_whole _) gV (Memref.isWhole_whole _)
            aV (Memref.isWhole_whole _) cc0_scoped1 bV (Memref.isWhole_whole _) cc0_scoped3 cc0_scoped4)
          fun _ => iprop(td0 m d i q ∗ scopedBufs (thr0 d i) ∗ scopedSems0 (thr0 d i)
            ∗ ∃ W', ⌜∀ p ∈ W', p ∈ W ∨ p.2 = none⌝ ∗ owes (thr0 d i) O W') := by
  rw [(K (F := F)).scopedBufs_V hF d ((i 0).castLE hcore0) ((i 1).castLE hsub0),
    SparseCore.Cfg.scopedSems0_V (Val := Elt F) d ((i 0).castLE hcore0) ((i 1).castLE hsub0), ownSems_0, ownBufs_0]
  unfold go0 td0 sems0 bufs0
  simp only [List.map_cons, List.map_nil, listed]
  iintro ⟨#Hlv, -, ⟨Hbi, Hbo, Ht⟩, ⟨Ha, Hb, Hbufs⟩, ⟨Hs1, Hs2, Hs3, Hs4, Hs5, Hsems⟩, HO⟩
  ihave Hmw := (show levAts (K (F := F)).L (K (F := F)).lev ⊢ Transfers.MayWaits (thr0 d i) (default : HIx 2) O from
    (K (F := F)).mayWaits_none (thr := thr0 d i) hO) $$ Hlv
  ihave Ha := (show iprop(∃ f, ((d, (Proc.scVector ((i 0).castLE hcore0) ((i 1).castLE hsub0)).devRef cc0_scoped0) : Loc nD τ sig) ↦{fullShare} f) ⊢ iprop((L0 m d i).si0 0 ∗ (L0 m d i).si0 1)
    from slots_split aSl_disjoint aSl_cover) $$ Ha
  ihave Hb := (show iprop(∃ f, ((d, (Proc.scVector ((i 0).castLE hcore0) ((i 1).castLE hsub0)).devRef cc0_scoped2) : Loc nD τ sig) ↦{fullShare} f) ⊢ iprop((L0 m d i).so0 0 ∗ (L0 m d i).so0 1)
    from slots_split bSl_disjoint bSl_cover) $$ Hb
  icases Ha with ⟨Ha0, Ha1⟩
  icases Hb with ⟨Hb0, Hb1⟩
  ihave Ht := (Entails.of_eq (show (v0Loc d ↦{q} V0 m d : sProp 𝕄) = ((tAll).view.loc (thr0 d i) ↦[(tAll).view.set]{q} V0 m d) by rw [tAll_set])) $$ Ht
  ihave Hwp := (pipe0 m d i hpre q O W) $$ [Ha0 Ha1 Hb0 Hb1 Hs1 Hs2 Hs3 Hs4 Hs5 Hbi Hbo Ht HO Hmw]
  · isplitl [Ha0 Hs1]
    · iapply (Line.inFree_close (L := L0 m d i) (t := 0))
      isplitl [Ha0]; · iexact Ha0
      iexact Hs1
    isplitl [Ha1 Hs2]
    · iapply (Line.inFree_close (L := L0 m d i) (t := 1))
      isplitl [Ha1]; · iexact Ha1
      iexact Hs2
    isplitl [Hb0 Hs3]
    · iapply (Line.outFree_close (L := L0 m d i) (t := 0))
      isplitl [Hb0]; · iexact Hb0
      iexact Hs3
    isplitl [Hb1 Hs4]
    · iapply (Line.outFree_close (L := L0 m d i) (t := 1))
      isplitl [Hb1]; · iexact Hb1
      iexact Hs4
    isplitl [Hbi]; · iexact Hbi
    isplitl [Hbo]; · iexact Hbo
    isplitl [Ht Hs5]
    · unfold base0
      isplitl [Ht]; · iexact Ht
      iexact Hs5
    isplitl [HO]; · iexact HO
    iexact Hmw
  iapply (wp_wand _ _ _) $$ Hwp
  iintro %_ ⟨Hi0, Hi1, Ho0, Ho1, Hbi, Hbo, Hbase, HO⟩
  ihave Hi0 := (Line.inFree_open (L := L0 m d i) (t := 0)) $$ Hi0
  ihave Hi1 := (Line.inFree_open (L := L0 m d i) (t := 1)) $$ Hi1
  ihave Ho0 := (Line.outFree_open (L := L0 m d i) (t := 0)) $$ Ho0
  ihave Ho1 := (Line.outFree_open (L := L0 m d i) (t := 1)) $$ Ho1
  icases Hi0 with ⟨Ha0, Hs1⟩
  icases Hi1 with ⟨Ha1, Hs2⟩
  icases Ho0 with ⟨Hb0, Hs3⟩
  icases Ho1 with ⟨Hb1, Hs4⟩
  ihave Hbase := (show base0 m d i q ⊢ iprop(((tAll).view.loc (thr0 d i) ↦[(tAll).view.set]{q} V0 m d) ∗ semVal (thr0 d i, .dma cc0_scoped4.sem) 0) from .rfl) $$ Hbase
  icases Hbase with ⟨Ht, Hs5⟩
  ihave Ht := (Entails.of_eq (show ((tAll).view.loc (thr0 d i) ↦[(tAll).view.set]{q} V0 m d : sProp 𝕄) = (v0Loc d ↦{q} V0 m d) by rw [tAll_set])) $$ Ht
  isplitl [Hbi Hbo Ht]
  · isplitl [Hbi]; · iexact Hbi
    isplitl [Hbo]; · iexact Hbo
    iexact Ht
  isplitl [Ha0 Ha1 Hb0 Hb1 Hbufs]
  · isplitl [Ha0 Ha1]
    · iapply (show iprop((L0 m d i).si0 0 ∗ (L0 m d i).si0 1) ⊢ iprop(∃ f, ((d, (Proc.scVector ((i 0).castLE hcore0) ((i 1).castLE hsub0)).devRef cc0_scoped0) : Loc nD τ sig) ↦{fullShare} f)
        from slots_join aSl_disjoint aSl_cover)
      isplitl [Ha0] <;> iassumption
    isplitl [Hb0 Hb1]
    · iapply (show iprop((L0 m d i).so0 0 ∗ (L0 m d i).so0 1) ⊢ iprop(∃ f, ((d, (Proc.scVector ((i 0).castLE hcore0) ((i 1).castLE hsub0)).devRef cc0_scoped2) : Loc nD τ sig) ↦{fullShare} f)
        from slots_join bSl_disjoint bSl_cover)
      isplitl [Hb0] <;> iassumption
    iexact Hbufs
  isplitl [Hs1 Hs2 Hs3 Hs4 Hs5 Hsems]
  · isplitl [Hs1]; · iexact Hs1
    isplitl [Hs2]; · iexact Hs2
    isplitl [Hs3]; · iexact Hs3
    isplitl [Hs4]; · iexact Hs4
    isplitl [Hs5]; · iexact Hs5
    iexact Hsems
  iapply (show owed (F := F) (thr0 d i) O W ⊢ iprop(∃ W', ⌜∀ p ∈ W', p ∈ W ∨ p.2 = none⌝ ∗ owes (thr0 d i) O W') from .rfl)
  iexact HO

/-- A tile's task in the second call. -/
theorem tile_body1 (hF : (K (F := F)).Facts) (i : grid1.Coords)
    (O : CellTallies nD τ sig (HIx 2)) (W : Waits sig (HIx 2)) (hO : ∀ g, O g none = 0) :
    iprop(levAts (K (F := F)).L (K (F := F)).lev ∗ emp ∗ go1 m d i
        ∗ scopedBufs (thr1 d i) ∗ scopedSems0 (thr1 d i) ∗ owes (thr1 d i) O W)
      ⊢ wp (M := 𝕄) frame (wpE (defs₀ (F := F)) 𝒱₀ (thr1 d i) none) Set.univ
          (cc1_sc_format i gV (Memref.isWhole_whole _) oV (Memref.isWhole_whole _)
            cV (Memref.isWhole_whole _) cc1_scoped1 dV (Memref.isWhole_whole _) cc1_scoped3)
          fun _ => iprop(td1 m d i ∗ scopedBufs (thr1 d i) ∗ scopedSems0 (thr1 d i)
            ∗ ∃ W', ⌜∀ p ∈ W', p ∈ W ∨ p.2 = none⌝ ∗ owes (thr1 d i) O W') := by
  rw [(K (F := F)).scopedBufs_V hF d ((i 0).castLE hcore1) ((i 1).castLE hsub1),
    SparseCore.Cfg.scopedSems0_V (Val := Elt F) d ((i 0).castLE hcore1) ((i 1).castLE hsub1), ownSems_1, ownBufs_1]
  unfold go1 td1 sems1 bufs1
  simp only [List.map_cons, List.map_nil, listed]
  iintro ⟨#Hlv, -, ⟨Hbi, Hbo⟩, ⟨Ha, Hb, Hbufs⟩, ⟨Hs1, Hs2, Hs3, Hs4, Hsems⟩, HO⟩
  ihave Hmw := (show levAts (K (F := F)).L (K (F := F)).lev ⊢ Transfers.MayWaits (thr1 d i) (default : HIx 2) O from
    (K (F := F)).mayWaits_none (thr := thr1 d i) hO) $$ Hlv
  ihave Ha := (show iprop(∃ f, ((d, (Proc.scVector ((i 0).castLE hcore1) ((i 1).castLE hsub1)).devRef cc1_scoped0) : Loc nD τ sig) ↦{fullShare} f) ⊢ iprop((L1 m d i).si0 0 ∗ (L1 m d i).si0 1)
    from slots_split cSl_disjoint cSl_cover) $$ Ha
  ihave Hb := (show iprop(∃ f, ((d, (Proc.scVector ((i 0).castLE hcore1) ((i 1).castLE hsub1)).devRef cc1_scoped2) : Loc nD τ sig) ↦{fullShare} f) ⊢ iprop((L1 m d i).so0 0 ∗ (L1 m d i).so0 1)
    from slots_split dSl_disjoint dSl_cover) $$ Hb
  icases Ha with ⟨Ha0, Ha1⟩
  icases Hb with ⟨Hb0, Hb1⟩
  ihave Hwp := (pipe1 m d i O W) $$ [Ha0 Ha1 Hb0 Hb1 Hs1 Hs2 Hs3 Hs4 Hbi Hbo HO Hmw]
  · isplitl [Ha0 Hs1]
    · iapply (Line.inFree_close (L := L1 m d i) (t := 0))
      isplitl [Ha0]; · iexact Ha0
      iexact Hs1
    isplitl [Ha1 Hs2]
    · iapply (Line.inFree_close (L := L1 m d i) (t := 1))
      isplitl [Ha1]; · iexact Ha1
      iexact Hs2
    isplitl [Hb0 Hs3]
    · iapply (Line.outFree_close (L := L1 m d i) (t := 0))
      isplitl [Hb0]; · iexact Hb0
      iexact Hs3
    isplitl [Hb1 Hs4]
    · iapply (Line.outFree_close (L := L1 m d i) (t := 1))
      isplitl [Hb1]; · iexact Hb1
      iexact Hs4
    isplitl [Hbi]; · iexact Hbi
    isplitl [Hbo]; · iexact Hbo
    isplitl [HO]; · iexact HO
    iexact Hmw
  iapply (wp_wand _ _ _) $$ Hwp
  iintro %_ ⟨Hi0, Hi1, Ho0, Ho1, Hbi, Hbo, HO⟩
  ihave Hi0 := (Line.inFree_open (L := L1 m d i) (t := 0)) $$ Hi0
  ihave Hi1 := (Line.inFree_open (L := L1 m d i) (t := 1)) $$ Hi1
  ihave Ho0 := (Line.outFree_open (L := L1 m d i) (t := 0)) $$ Ho0
  ihave Ho1 := (Line.outFree_open (L := L1 m d i) (t := 1)) $$ Ho1
  icases Hi0 with ⟨Ha0, Hs1⟩
  icases Hi1 with ⟨Ha1, Hs2⟩
  icases Ho0 with ⟨Hb0, Hs3⟩
  icases Ho1 with ⟨Hb1, Hs4⟩
  isplitl [Hbi Hbo]
  · isplitl [Hbi]; · iexact Hbi
    iexact Hbo
  isplitl [Ha0 Ha1 Hb0 Hb1 Hbufs]
  · isplitl [Ha0 Ha1]
    · iapply (show iprop((L1 m d i).si0 0 ∗ (L1 m d i).si0 1) ⊢ iprop(∃ f, ((d, (Proc.scVector ((i 0).castLE hcore1) ((i 1).castLE hsub1)).devRef cc1_scoped0) : Loc nD τ sig) ↦{fullShare} f)
        from slots_join cSl_disjoint cSl_cover)
      isplitl [Ha0] <;> iassumption
    isplitl [Hb0 Hb1]
    · iapply (show iprop((L1 m d i).so0 0 ∗ (L1 m d i).so0 1) ⊢ iprop(∃ f, ((d, (Proc.scVector ((i 0).castLE hcore1) ((i 1).castLE hsub1)).devRef cc1_scoped2) : Loc nD τ sig) ↦{fullShare} f)
        from slots_join dSl_disjoint dSl_cover)
      isplitl [Hb0] <;> iassumption
    iexact Hbufs
  isplitl [Hs1 Hs2 Hs3 Hs4 Hsems]
  · isplitl [Hs1]; · iexact Hs1
    isplitl [Hs2]; · iexact Hs2
    isplitl [Hs3]; · iexact Hs3
    isplitl [Hs4]; · iexact Hs4
    iexact Hsems
  iapply (show owed (F := F) (thr1 d i) O W ⊢ iprop(∃ W', ⌜∀ p ∈ W', p ∈ W ∨ p.2 = none⌝ ∗ owes (thr1 d i) O W') from .rfl)
  iexact HO

end Task

end Cert.Proof.Rows

end
-- ==== Proof.Blocks.lean ====
/-
  Each array whole is its blocks over the cores, the subcores and a subcore's blocks; and what the tiles of one call bring
  and bring back, gathered over all of them, is the arrays whole.
-/
module

public import proofs.«01_k».proof.Proof.Bufs

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-! ## A whole array and its blocks -/

/-- An array whose elements fall in `32 * n` blocks is held whole by holding each block: `n` consecutive blocks to each of
    sixteen subcores of two cores. -/
theorem whole_blocks {ℓ : Loc nD τ sig} (n : ℕ) (A : ℕ → Finset (Idx ℓ)) (g : Idx ℓ → ℕ) (hg : ∀ k, g k < 32 * n)
    (hA : ∀ B, B < 32 * n → ∀ k, k ∈ A B ↔ g k = B) (f : Buf (Elt F) ℓ) :
    (ℓ ↦{fullShare} f : sProp 𝕄) = bigSep Finset.univ fun c : Fin 2 => bigSep Finset.univ fun s : Fin 16 =>
      bigSep (Finset.range n) fun t => ℓ ↦[A (n * (s.val + 16 * c.val) + t)]{fullShare} f := by
  have hlt : ∀ (c : Fin 2) (s : Fin 16) (t : ℕ), t < n → n * (s.val + 16 * c.val) + t < 32 * n := by
    intro c s t ht
    have h1 : s.val + 16 * c.val + 1 ≤ 32 := by omega
    have h2 := Nat.mul_le_mul_left n h1
    rw [Nat.mul_add, Nat.mul_one, Nat.mul_comm n 32] at h2
    omega
  have hin : ∀ (c : Fin 2) (s : Fin 16) (t : ℕ), t < n → ∀ k, k ∈ A (n * (s.val + 16 * c.val) + t) → g k / n = s.val + 16 * c.val ∧ g k % n = t := by
    intro c s t ht k hk
    have e := (hA _ (hlt c s t ht) k).mp hk
    rw [e]
    constructor
    · rw [Nat.mul_add_div (by omega), Nat.div_eq_of_lt ht, Nat.add_zero]
    · rw [Nat.mul_add_mod, Nat.mod_eq_of_lt ht]
  have e1 : ∀ (c : Fin 2) (s : Fin 16), (bigSep (Finset.range n) fun t => (ℓ ↦[A (n * (s.val + 16 * c.val) + t)]{fullShare} f : sProp 𝕄))
      = ℓ ↦[(Finset.range n).biUnion fun t => A (n * (s.val + 16 * c.val) + t)]{fullShare} f := fun c s =>
    (pointsTo_biUnion _ _ fun t ht t' ht' hne => Finset.disjoint_left.mpr fun k hk hk' =>
      hne ((hin c s t (Finset.mem_range.mp ht) k hk).2.symm.trans (hin c s t' (Finset.mem_range.mp ht') k hk').2)).symm
  have e2 : ∀ c : Fin 2, (bigSep Finset.univ fun s : Fin 16 => (ℓ ↦[(Finset.range n).biUnion fun t => A (n * (s.val + 16 * c.val) + t)]{fullShare} f : sProp 𝕄))
      = ℓ ↦[Finset.univ.biUnion fun s : Fin 16 => (Finset.range n).biUnion fun t => A (n * (s.val + 16 * c.val) + t)]{fullShare} f := fun c =>
    (pointsTo_biUnion _ _ fun s _ s' _ hne => Finset.disjoint_left.mpr fun k hk hk' => by
      obtain ⟨t, ht, hk⟩ := Finset.mem_biUnion.mp hk
      obtain ⟨t', ht', hk'⟩ := Finset.mem_biUnion.mp hk'
      have h1 := (hin c s t (Finset.mem_range.mp ht) k hk).1
      have h2 := (hin c s' t' (Finset.mem_range.mp ht') k hk').1
      exact hne (Fin.ext (by omega))).symm
  have e3 : (bigSep Finset.univ fun c : Fin 2 => (ℓ ↦[Finset.univ.biUnion fun s : Fin 16 => (Finset.range n).biUnion fun t => A (n * (s.val + 16 * c.val) + t)]{fullShare} f : sProp 𝕄))
      = ℓ ↦[Finset.univ.biUnion fun c : Fin 2 => Finset.univ.biUnion fun s : Fin 16 => (Finset.range n).biUnion fun t => A (n * (s.val + 16 * c.val) + t)]{fullShare} f :=
    (pointsTo_biUnion _ _ fun c _ c' _ hne => Finset.disjoint_left.mpr fun k hk hk' => by
      obtain ⟨s, -, hk⟩ := Finset.mem_biUnion.mp hk
      obtain ⟨s', -, hk'⟩ := Finset.mem_biUnion.mp hk'
      obtain ⟨t, ht, hk⟩ := Finset.mem_biUnion.mp hk
      obtain ⟨t', ht', hk'⟩ := Finset.mem_biUnion.mp hk'
      have h1 := (hin c s t (Finset.mem_range.mp ht) k hk).1
      have h2 := (hin c' s' t' (Finset.mem_range.mp ht') k hk').1
      exact hne (Fin.ext (by omega))).symm
  have hu : (Finset.univ.biUnion fun c : Fin 2 => Finset.univ.biUnion fun s : Fin 16 => (Finset.range n).biUnion fun t => A (n * (s.val + 16 * c.val) + t))
      = Finset.univ := by
    refine Finset.eq_univ_of_forall fun k => ?_
    have hk := hg k
    have hn : 0 < n := by
      rcases Nat.eq_zero_or_pos n with h | h
      · rw [h] at hk; omega
      · exact h
    have hq : g k / n < 32 := Nat.div_lt_of_lt_mul (by rw [Nat.mul_comm]; exact hk)
    refine Finset.mem_biUnion.mpr ⟨⟨g k / n / 16, by omega⟩, Finset.mem_univ _, Finset.mem_biUnion.mpr
      ⟨⟨g k / n % 16, by omega⟩, Finset.mem_univ _, Finset.mem_biUnion.mpr ⟨g k % n, Finset.mem_range.mpr (Nat.mod_lt _ hn), ?_⟩⟩⟩
    have e : n * (g k / n % 16 + 16 * (g k / n / 16)) + g k % n = g k := by
      rw [show g k / n % 16 + 16 * (g k / n / 16) = g k / n by omega]; exact Nat.div_add_mod _ _
    refine (hA _ ?_ k).mpr e.symm
    show n * (g k / n % 16 + 16 * (g k / n / 16)) + g k % n < 32 * n
    rw [e]; exact hk
  rw [← hu, ← e3]
  refine bigSep_congr fun c _ => ?_
  rw [← e2]
  refine bigSep_congr fun s _ => ?_
  rw [← e1]

/-- The tile of core `c` and subcore `s`, in the first call's grid; -/
def co0 (c : Fin 2) (s : Fin 16) : grid0.Coords := fun | 0 => c | 1 => s | ⟨_ + 2, h⟩ => absurd h (Nat.not_lt.2 (Nat.le_add_left _ _))
/-- in the second call's. -/
def co1 (c : Fin 2) (s : Fin 16) : grid1.Coords := fun | 0 => c | 1 => s | ⟨_ + 2, h⟩ => absurd h (Nat.not_lt.2 (Nat.le_add_left _ _))
/-- That tile's share of the table: a sixteenth of a half. -/
def tq (c : Fin 2) (s : Fin 16) : PosShare TreeShare := Transfers.dealOf (Transfers.dealOf fullShare Finset.univ c) Finset.univ s

/-- Elements held at `f` are held at some contents. -/
theorem held_some {ℓ : Loc nD τ sig} {I : Finset (Idx ℓ)} (f : Buf (Elt F) ℓ) :
    (ℓ ↦[I]{fullShare} f : sProp 𝕄) ⊢ iprop(∃ f, ℓ ↦[I]{fullShare} f) := by
  iintro H; iexists f; iexact H

/-- Two families over the tiles, side by side. -/
theorem tiles_sep (A B : Fin 2 → Fin 16 → sProp (MM F)) :
    (bigSep Finset.univ fun c : Fin 2 => bigSep Finset.univ fun s : Fin 16 => iprop(A c s ∗ B c s))
      = iprop((bigSep Finset.univ fun c : Fin 2 => bigSep Finset.univ fun s : Fin 16 => A c s)
          ∗ bigSep Finset.univ fun c : Fin 2 => bigSep Finset.univ fun s : Fin 16 => B c s) := by
  rw [← bigSep_sep']
  exact bigSep_congr fun c _ => bigSep_sep' _ _ _

section Arrays

variable (m : (ℓ : Loc nD τ sig) → Buf (Elt F) ℓ) (d : Dev nD)

theorem whole_v1 (f : Buf (Elt F) (v1Loc d)) : (v1Loc d ↦{fullShare} f : sProp 𝕄) = bigSep Finset.univ fun c : Fin 2 => bigSep Finset.univ fun s : Fin 16 =>
    bigSep (Finset.range 13) fun t => v1Loc d ↦[(iBlk (w0 (co0 c s) t)).view.set]{fullShare} f :=
  whole_blocks (ℓ := v1Loc d) 13 (fun B => (iBlk B).view.set) (fun k : S1x106496.Idx => (k 1).val / 256)
    (fun k => by have : (k 1).val < 106496 := (k 1).isLt; show (k 1).val / 256 < 416; omega)
    (fun B hB k => (mem_iBlk B k).trans (by have : B % 416 = B := Nat.mod_eq_of_lt hB; rw [this]; omega)) f
theorem whole_v2 (f : Buf (Elt F) (v2Loc d)) : (v2Loc d ↦{fullShare} f : sProp 𝕄) = bigSep Finset.univ fun c : Fin 2 => bigSep Finset.univ fun s : Fin 16 =>
    bigSep (Finset.range 13) fun t => v2Loc d ↦[(gBlk (w0 (co0 c s) t)).view.set]{fullShare} f :=
  whole_blocks (ℓ := v2Loc d) 13 (fun B => (gBlk B).view.set) (fun k : S106496x128.Idx => (k 0).val / 256)
    (fun k => by have : (k 0).val < 106496 := (k 0).isLt; show (k 0).val / 256 < 416; omega)
    (fun B hB k => (mem_gBlk B k).trans (by have : B % 416 = B := Nat.mod_eq_of_lt hB; rw [this]; omega)) f
theorem whole_v2' (f : Buf (Elt F) (v2Loc d)) : (v2Loc d ↦{fullShare} f : sProp 𝕄) = bigSep Finset.univ fun c : Fin 2 => bigSep Finset.univ fun s : Fin 16 =>
    bigSep (Finset.range 104) fun t => v2Loc d ↦[(fBlk (w1 (co1 c s) t)).view.set]{fullShare} f :=
  whole_blocks (ℓ := v2Loc d) 104 (fun B => (fBlk B).view.set) (fun k : S106496x128.Idx => (k 0).val / 32)
    (fun k => by have : (k 0).val < 106496 := (k 0).isLt; show (k 0).val / 32 < 3328; omega)
    (fun B hB k => (mem_fBlk B k).trans (by have : B % 3328 = B := Nat.mod_eq_of_lt hB; rw [this]; omega)) f
theorem whole_v3 (f : Buf (Elt F) (v3Loc d)) : (v3Loc d ↦{fullShare} f : sProp 𝕄) = bigSep Finset.univ fun c : Fin 2 => bigSep Finset.univ fun s : Fin 16 =>
    bigSep (Finset.range 104) fun t => v3Loc d ↦[(oBlk (w1 (co1 c s) t)).view.set]{fullShare} f :=
  whole_blocks (ℓ := v3Loc d) 104 (fun B => (oBlk B).view.set) (fun k : S106496x8x16.Idx => (k 0).val / 32)
    (fun k => by have : (k 0).val < 106496 := (k 0).isLt; show (k 0).val / 32 < 3328; omega)
    (fun B hB k => (mem_oBlk B k).trans (by have : B % 3328 = B := Nat.mod_eq_of_lt hB; rw [this]; omega)) f
/-- The table whole is every tile's share of it. -/
theorem whole_v0 (f : Buf (Elt F) (v0Loc d)) : (v0Loc d ↦{fullShare} f : sProp 𝕄)
    = bigSep Finset.univ fun c : Fin 2 => bigSep Finset.univ fun s : Fin 16 => v0Loc d ↦{tq c s} f := by
  rw [Transfers.pointsTo_deal (Finset.univ : Finset (Fin 2)) Finset.univ_nonempty fullShare]
  refine bigSep_congr fun c _ => ?_
  rw [Transfers.pointsTo_deal (Finset.univ : Finset (Fin 16)) Finset.univ_nonempty (Transfers.dealOf fullShare Finset.univ c)]
  rfl

/-- What the first call takes. -/
theorem start0 (f : Buf (Elt F) (v2Loc d)) :
    iprop((v1Loc d ↦{fullShare} V1 m d) ∗ (v2Loc d ↦{fullShare} f) ∗ v0Loc d ↦{fullShare} V0 m d)
      ⊢ (bigSep Finset.univ fun c : Fin 2 => bigSep Finset.univ fun s : Fin 16 => go0 m d (co0 c s) (tq c s) : sProp 𝕄) := by
  unfold go0
  rw [tiles_sep, tiles_sep, ← whole_v1, ← whole_v0]
  refine BIClass.sep_mono .rfl (BIClass.sep_mono ?_ .rfl)
  rw [whole_v2]
  refine bigSep_mono fun c _ => bigSep_mono fun s _ => bigSep_mono fun t _ => held_some f
/-- What the first call leaves. -/
theorem end0 : (bigSep Finset.univ fun c : Fin 2 => bigSep Finset.univ fun s : Fin 16 => td0 m d (co0 c s) (tq c s) : sProp 𝕄)
    ⊢ (v2Loc d ↦{fullShare} V2 m d) := by
  unfold td0
  rw [tiles_sep, tiles_sep, ← whole_v2]
  iintro ⟨-, H, -⟩; iexact H
/-- What the second call takes. -/
theorem start1 (f : Buf (Elt F) (v3Loc d)) :
    iprop((v2Loc d ↦{fullShare} V2 m d) ∗ v3Loc d ↦{fullShare} f)
      ⊢ (bigSep Finset.univ fun c : Fin 2 => bigSep Finset.univ fun s : Fin 16 => go1 m d (co1 c s) : sProp 𝕄) := by
  unfold go1
  rw [tiles_sep, ← whole_v2']
  refine BIClass.sep_mono .rfl ?_
  rw [whole_v3]
  refine bigSep_mono fun c _ => bigSep_mono fun s _ => bigSep_mono fun t _ => held_some f
/-- What the second call leaves. -/
theorem end1 : (bigSep Finset.univ fun c : Fin 2 => bigSep Finset.univ fun s : Fin 16 => td1 m d (co1 c s) : sProp 𝕄)
    ⊢ (v3Loc d ↦{fullShare} V3 m d) := by
  unfold td1
  rw [tiles_sep, ← whole_v3]
  iintro ⟨-, H⟩; iexact H

end Arrays

end Cert.Proof.Rows

end
-- ==== Proof.Launch.lean ====
/-
  The program's run: what each call takes and gives back, the tiles' tasks as the launch asks for them, the host program
  on each chip, and the final memory.
-/
module

public import proofs.«01_k».proof.Proof.Blocks

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tV" => (Memref.whole Cert.KernelIdeal.main_v0_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S1x106496 EltTy.i32)
local notation "gV" => (Memref.whole Cert.KernelIdeal.main_v2_scv : Memref Cert.KernelIdeal.sig Kind.scVector Space.hbm Cert.KernelIdeal.S106496x128 EltTy.f32)
local notation "oV" => (Memref.whole Cert.KernelIdeal.main_v3_scv : Memref Cert.KernelIdeal.sig Kind.scVector Space.hbm Cert.KernelIdeal.S106496x8x16 EltTy.f32)
local notation "aV" => (Memref.whole Cert.KernelIdeal.cc0_scoped0 : Memref Cert.KernelIdeal.sig Kind.scVector Space.vmem Cert.KernelIdeal.S2x1x256 EltTy.i32)
local notation "bV" => (Memref.whole Cert.KernelIdeal.cc0_scoped2 : Memref Cert.KernelIdeal.sig Kind.scVector Space.vmem Cert.KernelIdeal.S2x256x128 EltTy.f32)
local notation "cV" => (Memref.whole Cert.KernelIdeal.cc1_scoped0 : Memref Cert.KernelIdeal.sig Kind.scVector Space.vmem Cert.KernelIdeal.S2x32x128 EltTy.f32)
local notation "dV" => (Memref.whole Cert.KernelIdeal.cc1_scoped2 : Memref Cert.KernelIdeal.sig Kind.scVector Space.vmem Cert.KernelIdeal.S2x32x8x16 EltTy.f32)

/-! ## What the calls carry -/

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

variable (m : (ℓ : Loc nD τ sig) → Buf (Elt F) ℓ) (ρ : Dev nD → PrngReg)

variable [FloatOps F]

/-- Each call takes what its tiles bring and gives back what they bring back. -/
def P : (K (F := F)).Pay (nD := nD) (Val := Elt F) (Name := ℕ) (U := UU) where
  st := fun q d c => match q with
    | 0 => bigSep Finset.univ fun s : Fin 16 => go0 m d (co0 (Fin.cast nCore_0 c) s) (tq (Fin.cast nCore_0 c) s)
    | 1 => bigSep Finset.univ fun s : Fin 16 => go1 m d (co1 (Fin.cast nCore_1 c) s)
  dn := fun q d c => match q with
    | 0 => bigSep Finset.univ fun s : Fin 16 => td0 m d (co0 (Fin.cast nCore_0 c) s) (tq (Fin.cast nCore_0 c) s)
    | 1 => bigSep Finset.univ fun s : Fin 16 => td1 m d (co1 (Fin.cast nCore_1 c) s)
  go := fun q d c i => match q with
    | 0 => go0 m d (co0 (Fin.cast nCore_0 c) (Fin.cast nSub_0 i)) (tq (Fin.cast nCore_0 c) (Fin.cast nSub_0 i))
    | 1 => go1 m d (co1 (Fin.cast nCore_1 c) (Fin.cast nSub_1 i))
  td := fun q d c i => match q with
    | 0 => td0 m d (co0 (Fin.cast nCore_0 c) (Fin.cast nSub_0 i)) (tq (Fin.cast nCore_0 c) (Fin.cast nSub_0 i))
    | 1 => td1 m d (co1 (Fin.cast nCore_1 c) (Fin.cast nSub_1 i))
  x := fun _ _ => iprop(emp)

omit [FloatOps F] in
instance go0_storable (d : Dev nD) (i : grid0.Coords) (q : PosShare TreeShare) : BI.Storable (upEmb : UEmb _ 𝕄) (go0 m d i q) := by unfold go0; infer_instance
omit [FloatOps F] in
instance td0_storable (d : Dev nD) (i : grid0.Coords) (q : PosShare TreeShare) : BI.Storable (upEmb : UEmb _ 𝕄) (td0 m d i q) := by unfold td0; infer_instance
omit [FloatOps F] in
instance go1_storable (d : Dev nD) (i : grid1.Coords) : BI.Storable (upEmb : UEmb _ 𝕄) (go1 m d i) := by unfold go1; infer_instance
omit [FloatOps F] in
instance td1_storable (d : Dev nD) (i : grid1.Coords) : BI.Storable (upEmb : UEmb _ 𝕄) (td1 m d i) := by unfold td1; infer_instance

attribute [local irreducible] go0 td0 go1 td1

instance P_storable : (P (F := F) m).IsStorable where
  st q d c := match q with
    | 0 => (inferInstance : BI.Storable (upEmb : UEmb _ 𝕄) (bigSep Finset.univ fun s : Fin 16 => go0 m d (co0 (Fin.cast nCore_0 c) s) (tq (Fin.cast nCore_0 c) s)))
    | 1 => (inferInstance : BI.Storable (upEmb : UEmb _ 𝕄) (bigSep Finset.univ fun s : Fin 16 => go1 m d (co1 (Fin.cast nCore_1 c) s)))
  dn q d c := match q with
    | 0 => (inferInstance : BI.Storable (upEmb : UEmb _ 𝕄) (bigSep Finset.univ fun s : Fin 16 => td0 m d (co0 (Fin.cast nCore_0 c) s) (tq (Fin.cast nCore_0 c) s)))
    | 1 => (inferInstance : BI.Storable (upEmb : UEmb _ 𝕄) (bigSep Finset.univ fun s : Fin 16 => td1 m d (co1 (Fin.cast nCore_1 c) s)))
  go q d c i := match q with
    | 0 => go0_storable m d (co0 (Fin.cast nCore_0 c) (Fin.cast nSub_0 i)) (tq (Fin.cast nCore_0 c) (Fin.cast nSub_0 i))
    | 1 => go1_storable m d (co1 (Fin.cast nCore_1 c) (Fin.cast nSub_1 i))
  td q d c i := match q with
    | 0 => td0_storable m d (co0 (Fin.cast nCore_0 c) (Fin.cast nSub_0 i)) (tq (Fin.cast nCore_0 c) (Fin.cast nSub_0 i))
    | 1 => td1_storable m d (co1 (Fin.cast nCore_1 c) (Fin.cast nSub_1 i))

/-! ## The tiles' tasks as the launch asks for them -/

omit [FloatOps F] in
theorem co0_eq (c : Fin (grid0.bound 0)) (s : Fin (grid0.bound 1)) : (co0 c s 0 : Fin (grid0.bound 0)) = c ∧ (co0 c s 1 : Fin (grid0.bound 1)) = s := ⟨rfl, rfl⟩

theorem defs_vector0 (c : Fin τ.nSC) (s : Fin τ.nSub) :
    defs₀ (F := F) (.scVector c s) 0 ()
      = SparseCore.onTile hcore0 hsub0 (fun c s => cc0_sc_gather (co0 c s)
          tV (Memref.isWhole_whole _) iV (Memref.isWhole_whole _) gV (Memref.isWhole_whole _)
          aV (Memref.isWhole_whole _) cc0_scoped1 bV (Memref.isWhole_whole _) cc0_scoped3 cc0_scoped4) ⟨⟩ c s := rfl
theorem defs_vector1 (c : Fin τ.nSC) (s : Fin τ.nSub) :
    defs₀ (F := F) (.scVector c s) 1 ()
      = SparseCore.onTile hcore1 hsub1 (fun c s => cc1_sc_format (co1 c s)
          gV (Memref.isWhole_whole _) oV (Memref.isWhole_whole _)
          cV (Memref.isWhole_whole _) cc1_scoped1 dV (Memref.isWhole_whole _) cc1_scoped3) ⟨⟩ c s := rfl

omit [FloatOps F] in
/-- The waits a task records are among those the launch allows it. -/
theorem post_weaken {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_vector0]; simp only [SparseCore.onTile, hci, and_self, ↓reduceDIte]
  exact (tile_body0 m d hF hpre (co0 (Fin.cast nCore_0 c) (Fin.cast nSub_0 i)) (tq (Fin.cast nCore_0 c) (Fin.cast nSub_0 i)) O W hO).trans
    (wp_mono frame _ _ fun _ => post_weaken)
theorem tileObl1 (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs_vector1]; simp only [SparseCore.onTile, hci, and_self, ↓reduceDIte]
  exact (tile_body1 m d hF (co1 (Fin.cast nCore_1 c) (Fin.cast nSub_1 i)) O W hO).trans (wp_mono frame _ _ fun _ => post_weaken)

theorem vecSplit0 : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H
theorem vecSplit1 : (K (F := F)).VecSplit' (P m) 1 := by
  intro d c
  show (P m).st 1 d c ⊢ |={Set.univ}=> iprop((P m).st 1 d c ∗ ((P m).dn 1 d c -∗ (P m).dn 1 d c))
  iintro H; imodintro
  isplitl [H]; · iexact H
  iintro H; iexact H

/-! ## The launch's ghost state -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 2 => (P (F := F) m).x q thr) = bigSep Finset.univ fun _ => iprop(emp) from
    bigSep_congr fun _ _ => emps _, emps]
  iempintro

end Cert.Proof.Rows

end
-- ==== Proof.Main.lean ====
/-
  The host program on each chip, and the program's run: it ends with the arguments as they were and the result at its
  value.
-/
module

public import proofs.«01_k».proof.Proof.Launch

@[expose] public section

set_option maxRecDepth 16384

noncomputable section

namespace Cert.Proof.Rows

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)

variable [FloatOps F]

/-! ## The host's reshapes -/

/-- A reshape on the host, over the two arrays it names. -/
theorem wp_reshape (V₀ : Valuation τ sig (Elt F)) (d : Dev nD) (x y : Ref sig .tc) (hxy : x ≠ y) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    (f : x.ty.Contents (Elt F)) (g : y.ty.Contents (Elt F)) {Q : PUnit → sProp 𝕄} :
    iprop(boundary (T d) ∗ ((d, Proc.devRef .tc x) ↦{fullShare} f) ∗ ((d, Proc.devRef .tc y) ↦{fullShare} g))
      ⊢ iprop(((boundary (T d) ∗ ((d, Proc.devRef .tc x) ↦{fullShare} f) ∗ ((d, Proc.devRef .tc y) ↦{fullShare} fun i => he ▸ shapeCast y.ty.shape f hn i)) -∗ Q ⟨⟩)
        -∗ wp (M := 𝕄) frame (wpE ((K (F := F)).defs (D (F := F))) 𝒱 (SparseCore.T d) none) Set.univ
            (hlo rfl (StableHlo.reshape x y he hn hx hy) fun _ => .ret ⟨⟩) Q) := by
  have hne : Proc.devRef (τ := τ) .tc x ≠ Proc.devRef .tc y := fun e => hxy (Proc.devRef_injective _ e)
  obtain ⟨V, hVx, hVy⟩ : ∃ V : Valuation τ sig (Elt F), V (Proc.devRef .tc x) = f ∧ V (Proc.devRef .tc y) = g :=
    ⟨Function.update (Function.update V₀ (Proc.devRef .tc x) f) (Proc.devRef .tc y) g,
      by rw [Function.update_of_ne hne, Function.update_self], by rw [Function.update_self]⟩
  subst hVx hVy
  have hpair : ∀ W : Valuation τ sig (Elt F), (bigSep ({Proc.devRef .tc x, Proc.devRef .tc y} : Finset (DevRef τ sig)) fun b => ((d, b) ↦{fullShare} W b : sProp 𝕄))
      = iprop(((d, Proc.devRef .tc x) ↦{fullShare} W (Proc.devRef .tc x)) ∗ ((d, Proc.devRef .tc y) ↦{fullShare} W (Proc.devRef .tc y))) := fun W => by
    rw [SparseCore.bigSep_insert' (by simpa using hne), bigSep_singleton]
  have hw := wp_hlo (Γ := .empty) (Val := Elt F) (Name := ℕ) (U := UU) (defs := (K (F := F)).defs (D (F := F))) 𝒱 (SparseCore.T d) none Set.univ (hp := rfl)
    (op := StableHlo.reshape x y he hn hx hy) (k := fun _ => .ret ⟨⟩) (q := fun _ => fullShare) (F := V) (Q := Q) (fun _ _ => rfl)
  rw [StableHlo.reshape_bufs, hpair, hpair, StableHlo.reshape_result, StableHlo.reshape_result_ne _ _ _ _ _ _ _ hxy] at hw
  iintro H Hk
  iapply hw $$ H
  iintro H
  rw [wp_ret]; imodintro
  iapply Hk; iexact H

/-! ## The host program -/

attribute [local irreducible] go0 td0 go1 td1

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (v1Loc d ↦{fullShare} W main_v1) ∗ (v2Loc d ↦{fullShare} W main_v2) ∗ (v3Loc d ↦{fullShare} W main_v3) ∗ v4Loc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the host program ends with: the arguments as they were, the result. -/
abbrev FIN (d : Dev nD) : sProp 𝕄 := iprop((a0Loc d ↦{fullShare} m (a0Loc d)) ∗ (a1Loc d ↦{fullShare} m (a1Loc d)) ∗ v4Loc d ↦{fullShare} V4 m d)

/-- The host program on chip `d`: two reshapes, the two calls, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, Hv0, Hv1, Hv2, Hv3, Hv4⟩, Hts, -⟩, -⟩
  iapply (wp_reshape (fun b => m (d, b)) d main_arg1 main_v0 (by decide) rfl shapeCasts_S100000x8x16_S100000x128 _ _ (m (a1Loc d)) (m (v0Loc d))) $$ [Hb H1 Hv0]
  · isplitl [Hb]; · iexact Hb
    isplitl [H1]; · iexact H1
    iexact Hv0
  iintro ⟨Hb, H1, Hv0⟩
  iapply (wp_reshape (fun b => m (d, b)) d main_arg0 main_v1 (by decide) rfl shapeCasts_S4096x26_S1x106496 _ _ (m (a0Loc d)) (m (v1Loc d))) $$ [Hb H0 Hv1]
  · isplitl [Hb]; · iexact Hb
    isplitl [H0]; · iexact H0
    iexact Hv1
  iintro ⟨Hb, H0, Hv1⟩
  iapply ((K (F := F)).wp_run (D (F := F)) 𝒱 (EH := EH) (P := P m) κ d 0)
  isplitr; · iexact Hctx
  isplitl [Hst]; · iexact Hst
  isplitl [Hv0 Hv1 Hv2]
  · iapply (show _ ⊢ (bigSep Finset.univ fun c : Fin ((K (F := F)).nCore 0) => (P m).st 0 d c) from start0 m d (m (v2Loc d)))
    isplitl [Hv1]; · iexact Hv1
    isplitl [Hv2]; · iexact Hv2
    iexact Hv0
  iintro ⟨Hst, Hdn⟩
  ihave Hv2 := (show (bigSep Finset.univ fun c : Fin ((K (F := F)).nCore 0) => (P m).dn 0 d c) ⊢ _ from end0 m d) $$ Hdn
  iapply ((K (F := F)).wp_run (D (F := F)) 𝒱 (EH := EH) (P := P m) κ d 1)
  isplitr; · iexact Hctx
  isplitl [Hst]; · iexact Hst
  isplitl [Hv2 Hv3]
  · iapply (show _ ⊢ (bigSep Finset.univ fun c : Fin ((K (F := F)).nCore 1) => (P m).st 1 d c) from start1 m d (m (v3Loc d)))
    isplitl [Hv2]; · iexact Hv2
    iexact Hv3
  iintro ⟨Hst, Hdn⟩
  ihave Hv3 := (show (bigSep Finset.univ fun c : Fin ((K (F := F)).nCore 1) => (P m).dn 1 d c) ⊢ _ from end1 m d) $$ Hdn
  iapply (wp_reshape (fun b => m (d, b)) d main_v3 main_v4 (by decide) rfl shapeCasts_S106496x8x16_S4096x26x8x16 _ _ (V3 m d) (m (v4Loc d))) $$ [Hb Hv3 Hv4]
  · isplitl [Hb]; · iexact Hb
    isplitl [Hv3]; · iexact Hv3
    iexact Hv4
  iintro ⟨Hb, Hv3, Hv4⟩
  imodintro
  isplitl [Hst]; · iexact Hst
  isplitl [H0 H1 Hv4]
  · isplitl [H0]; · iexact H0
    isplitl [H1]; · iexact H1
    iexact Hv4
  isplitl [Hb]; · iexact Hb
  iexact Hts

/-! ## The run -/

/-- What the final memory holds on chip `d`. -/
def fq (d : Dev nD) (s' : Phys nD τ sig (Elt F)) : Prop :=
  s'.mem.mem (a0Loc d) = m (a0Loc d) ∧ s'.mem.mem (a1Loc d) = m (a1Loc d) ∧ s'.mem.mem (v4Loc d) = V4 m d

omit [FloatOps F] in
theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v4Loc d) (I := Finset.univ) (q := fullShare) (f := V4 m d)) $$ [HSI H4]
  · isplitl [HSI] <;> iassumption
  icases H with %h4
  ipureintro
  exact ⟨funext fun i => h0 i (Finset.mem_univ i), funext fun i => h1 i (Finset.mem_univ i), funext fun i => h4 i (Finset.mem_univ i)⟩

/-- What a run ends in: on every chip the arguments as they were and the result at its value; every semaphore at zero. -/
def Ends : PUnit × MemSt nD τ sig (Elt F) → Prop := fun r =>
  (∀ c : Dev nD, r.2.mem (a0Loc c) = m (a0Loc c) ∧ r.2.mem (a1Loc c) = m (a1Loc c) ∧ r.2.mem (v4Loc c) = V4 m c) ∧ r.2.sem = fun _ => 0

/-- Every run of the program ends so. -/
theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hpre | 1 => tileObl1 m facts)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (Ends m) (fun _ h hz => ⟨h, hz⟩)

end Cert.Proof.Rows

end
-- ==== Proof.Value.lean ====
/-
  The result's value. The reference looks each number up in the table; for numbers that are in range its wrap of negative
  numbers and its fill of missing rows change nothing, and what is left is the row the number names. The kernel's result is
  the same row, read through the flat table.
-/
module

public import proofs.«01_k».proof.Proof.Base
public import proofs.«01_k».proof.Proof.Gen.ReferenceIdeal
public import proofs.«01_k».proof.Proof.Gen.Pre_in_range
public import Idealize.ShloMosaic.Lib.ReduceAll
public import Idealize.ShloMosaic.Lib.WordCmp
public import Idealize.ShloMosaic.Lib.StableHlo.Predicate

@[expose] public section

set_option maxRecDepth 16384

noncomputable section

namespace Cert.Proof.Look

open Cert.ReferenceIdeal Cert.ReferenceIdeal.Gen
open Idealize.ShloMosaic Idealize.ShloMosaic.StableHlo.Predicate

variable {F : FTy → Type}

/-! ## One number in range -/

theorem pick {α : Type} (x y : α) : Scalar.select 1#1 x y = x := rfl
theorem skip {α : Type} (x y : α) {c : BitVec 1} (h : c ≠ 1#1) : Scalar.select c x y = y := if_neg h

/-- A number below 100000, read signed, is not below zero. -/
theorem not_neg {v : BitVec 32} (h : v.toNat < 100000) : IntOp.cmpi .slt v 0#32 ≠ 1#1 := fun e =>
  absurd ((slt_iff_toNat (by omega) (by decide)).1 e) (Nat.not_lt_zero _)

/-- Such a number passes the reference's test of the row numbers. -/
theorem in_range {v : BitVec 32} (h : v.toNat < 100000) : IntOp.andi (IntOp.cmpi .sge v 0#32) (IntOp.cmpi .sle v 99999#32) = 1#1 := by
  rw [(sge_iff_toNat (by omega) (by decide)).2 (Nat.zero_le _),
    (sle_iff_toNat (by omega) (by decide)).2 (show v.toNat ≤ 99999 by omega)]
  rfl

/-- The precondition's test of one number gives the bound. -/
theorem lt_of_tests {v : BitVec 32} (e : IntOp.andi (IntOp.cmpi .sge v 0#32) (IntOp.cmpi .slt v 100000#32) = 1#1) : v.toNat < 100000 := by
  simp only [IntOp.cmpi, WordCmp.andi_ofBool, ofBool_eq_one_iff, Bool.and_eq_true, BitVec.sle_eq_decide, BitVec.slt_eq_decide,
    decide_eq_true_eq, BitVec.toInt_eq_toNat_cond, BitVec.toNat_ofNat, Nat.reducePow, Nat.reduceMod] at e
  omega

/-- The precondition, on one chip's arguments: every number is below 100000. -/
theorem lt_of_pre [FloatOps F] (a : IVec S4096x26 32) (b : FVec F S100000x8x16 .f32)
    (h : Cert.Pre_in_range.fn a b = fun _ => 1#1) (j : S4096x26.Idx) : (a j).toNat < 100000 := by
  have : Subsingleton Cert.Pre_in_range.S_.Idx := ⟨fun x y => funext fun a => a.elim0⟩
  exact lt_of_tests (Host.reduce_andi_all _ _ _ _ (fun a => a.elim0) (congrFun h _) j)

/-! ## The reference's lookup -/

variable (a : IVec S4096x26 32)

/-- The row numbers, flat. -/
def nums : IVec S106496 32 := shapeCast S106496 a shapeCasts_S4096x26_S106496
/-- The row numbers, the negative ones counted from the table's end. -/
def wrapped : IVec S106496 32 :=
  select (cmpi .slt (nums a) (broadcastInDim S106496 ![] bcast_S_S106496 (constantI S_ 32 0#32)))
    (addi (nums a) (broadcastInDim S106496 ![] bcast_S_S106496 (constantI S_ 32 100000#32))) (nums a)
/-- One row number per row. -/
def starts : IVec S106496x1 32 := broadcastInDim S106496x1 ![0] bcast_S106496_S106496x1_0 (wrapped a)
/-- Which rows' numbers are in the table. -/
def valid : IVec S106496 1 :=
  Host.reduce IntOp.andi (andi (cmpi .sge (starts a) (broadcastInDim S106496x1 ![] bcast_S_S106496x1 (constantI S_ 32 0#32)))
    (cmpi .sle (starts a) (broadcastInDim S106496x1 ![0, 1] bcast_S1x1_S106496x1_0_1 (broadcastInDim S1x1 ![1] bcast_S1_S1x1_1 (constantI S1 32 99999#32)))))
    (constantI S_ 1 1#1) reducesTo_S106496x1_S106496_d1 h_S_
/-- The rows looked up. -/
def rows (b : S100000x8x16.Idx → F .f32) : S106496x8x16.Idx → F .f32 :=
  Host.gather gather_S100000x8x16_S106496x1_S106496x8x16_12_0_n_n_0_1_1816 b (starts a)

/-- The rows looked up, a row whose number is not in the table filled; in the result's shape. -/
def looked [FloatOps F] (b : FVec F S100000x8x16 .f32) : FVec F S4096x26x8x16 .f32 :=
  shapeCast S4096x26x8x16 (select (broadcastInDim S106496x8x16 ![0] bcast_S106496_S106496x8x16_0 (valid a)) (rows a b)
    (broadcastInDim S106496x8x16 ![] bcast_S_S106496x8x16 (constant S_ .f32 0x7FC00000#32))) shapeCasts_S106496x8x16_S4096x26x8x16

/-- Equal arguments give equal results. -/
theorem looked_congr [FloatOps F] {a a' : IVec S4096x26 32} {b b' : FVec F S100000x8x16 .f32} (ha : a' = a) (hb : b' = b) :
    looked a' b' = looked a b := by rw [ha, hb]

variable {a} (ha : ∀ j, (a j).toNat < 100000)
include ha

theorem nums_lt (r : S106496.Idx) : (nums a r).toNat < 100000 := ha _

/-- No number is negative, so none is wrapped. -/
theorem wrapped_eq : wrapped a = nums a := funext fun r => skip _ _ (not_neg (nums_lt ha r))

theorem starts_apply (k : S106496x1.Idx) : starts a k = nums a (ix1 (k 0)) := by
  unfold starts
  rw [wrapped_eq ha]
  exact congrArg (nums a) (funext fun x => by match x with | 0 => rfl)

theorem starts_lt (k : S106496x1.Idx) : (starts a k).toNat < 100000 := by rw [starts_apply ha]; exact nums_lt ha _

/-- Every row's number is in the table. -/
theorem valid_apply (r : S106496.Idx) : valid a r = 1#1 :=
  Host.reduce_andi_one _ _ _ _ r rfl fun k => in_range (starts_lt ha k)

/-- The lookup at row `r`: the table's row that the number names. -/
theorem rows_apply (b : S100000x8x16.Idx → F .f32) (k : S106496x8x16.Idx) :
    rows a b k = b (ix3 ⟨(nums a (ix1 (k 0))).toNat, nums_lt ha _⟩ (k 1) (k 2)) := by
  unfold rows Host.gather
  refine congrArg b (funext fun x => Fin.ext ?_)
  have e : (starts a (ix2 (k 0) 0)).toInt.toNat = (nums a (ix1 (k 0))).toNat := by
    rw [starts_apply ha, toInt_eq_toNat_of_lt (Nat.lt_trans (nums_lt ha _) (by decide))]
    rfl
  match x with
  | 0 =>
    refine (?_ : _ = min (starts a (ix2 (k 0) 0)).toInt.toNat (100000 - 1) + 0 + 0).trans ?_
    · refine congrArg₂ (· + ·) (congrArg₂ (· + ·) (congrArg (fun z => min (starts a z).toInt.toNat _) ?_) rfl) rfl
      funext y
      match y with
      | 0 => rfl
      | 1 => rfl
    · rw [e]
      have := nums_lt ha (ix1 (k 0))
      show min (nums a (ix1 (k 0))).toNat (100000 - 1) + 0 + 0 = (nums a (ix1 (k 0))).toNat
      omega
  | 1 => exact Nat.zero_add _
  | 2 => exact Nat.zero_add _

/-- No row is filled, so the result is the rows looked up. -/
theorem looked_eq [FloatOps F] (b : FVec F S100000x8x16 .f32) :
    looked a b = shapeCast S4096x26x8x16 (rows a b) shapeCasts_S106496x8x16_S4096x26x8x16 := by
  unfold looked
  refine congrArg (fun z => shapeCast S4096x26x8x16 z shapeCasts_S106496x8x16_S4096x26x8x16) (funext fun k => ?_)
  show Scalar.select (valid a _) _ _ = _
  rw [valid_apply ha]
  rfl

end Cert.Proof.Look

namespace Cert.Proof.Rows

open Cert.KernelIdeal Cert.KernelIdeal.Gen
open Idealize.ShloMosaic

variable {F : FTy → Type} (m : (ℓ : Loc nD τ sig) → Buf (Elt F) ℓ)

/-- The kernel's row number for row `r` is the reference's. -/
theorem V1_eq (d : Dev nD) (r : Fin 106496) : V1 m d (ix2 0 r) = Look.nums (m (a0Loc d)) (ix1 r) := by
  refine shapeCast_apply (s := S4096x26) (t := S1x106496) (m (a0Loc d)) shapeCasts_S4096x26_S1x106496 (ix2 0 r) _ ?_
  refine (Shape.rowMajor_reshapeEquiv Cert.ReferenceIdeal.Gen.shapeCasts_S4096x26_S106496 (ix1 r)).trans ?_
  rw [Shape.rowMajor_val_one, Shape.rowMajor_val_two]
  show r.val = 0 * 106496 + r.val
  omega

/-- Lane `16 i + j` of a flat row of the table is entry `(i, j)` of the row. -/
theorem V0_eq (d : Dev nD) (v : Fin 100000) (i : Fin 8) (j : Fin 16) (h : 16 * i.val + j.val < 128) :
    V0 m d (ix2 v ⟨16 * i.val + j.val, h⟩) = m (a1Loc d) (ix3 v i j) := by
  refine shapeCast_apply (s := S100000x8x16) (t := S100000x128) (m (a1Loc d)) shapeCasts_S100000x8x16_S100000x128 _ (ix3 v i j) ?_
  rw [Shape.rowMajor_val_three, Shape.rowMajor_val_two]
  show (v.val * 8 + i.val) * 16 + j.val = v.val * 128 + (16 * i.val + j.val)
  omega

/-- The kernel's rows are the reference's. -/
theorem V3_eq (h : PreOK m) (d : Dev nD) : V3 m d = Look.rows (m (a0Loc d)) (m (a1Loc d)) := by
  funext k
  refine (V0_eq m d ⟨(V1 m d (ix2 0 (k 0))).toNat % 100000, Nat.mod_lt _ (by omega)⟩ (k 1) (k 2) _).trans ?_
  refine Eq.trans ?_ (Look.rows_apply (h d) (m (a1Loc d)) k).symm
  refine congrArg (fun v => m (a1Loc d) (ix3 v (k 1) (k 2))) (Fin.ext ?_)
  show (V1 m d (ix2 0 (k 0))).toNat % 100000 = (Look.nums (m (a0Loc d)) (ix1 (k 0))).toNat
  rw [Nat.mod_eq_of_lt (V1_lt m h d _)]
  exact congrArg BitVec.toNat (V1_eq m d (k 0))

/-- The kernel's result is the reference's. -/
theorem V4_eq [FloatOps F] (h : PreOK m) (d : Dev nD) : V4 m d = Look.looked (m (a0Loc d)) (m (a1Loc d)) := by
  rw [Look.looked_eq (h d), ← V3_eq m h]
  rfl

end Cert.Proof.Rows

end
-- ==== Proof.lean ====
/-
  The claims: both programs' runs end with the arguments unchanged and every counter at zero, and the kernel's result is
  the reference's, over words and over the extended reals. The kernel and its idealization are one text over one signature,
  so the one run `Rows.run_main`, stated for any float values, gives both.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_range
public import proofs.«01_k».proof.Proof.Main
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem

/-! ## The precondition -/

/-- The kernel's precondition gives the bound the run asks for. -/
theorem ok_kernel {m : (ℓ : Loc Cert.Kernel.nD Cert.Kernel.τ Cert.Kernel.sig) → Buf (Elt Bits) ℓ} (h : Cert.Pre_Kernel m) :
    Rows.PreOK (F := Bits) m := fun d => Look.lt_of_pre (F := Bits) _ _ (h d)

/-- The idealized kernel's precondition gives the same bound. -/
theorem ok_ideal {m : (ℓ : Loc Cert.KernelIdeal.nD Cert.KernelIdeal.τ Cert.KernelIdeal.sig) → Buf (Elt Ideal) ℓ} (h : Cert.Pre_KernelIdeal m) :
    Rows.PreOK (F := Ideal) m := fun d => Look.lt_of_pre (F := Ideal) _ _ (h d)

/-! ## The kernel's run -/

/-- The kernel's run over words. -/
theorem run_kernel (m : (ℓ : Loc Cert.Kernel.nD Cert.Kernel.τ Cert.Kernel.sig) → Buf (Elt Bits) ℓ) (g : Dev Cert.Kernel.nD → PrngReg)
    (h : Cert.Pre_Kernel m) :
    θ_run (Cert.Kernel.defs (F := Bits)) (Cert.Kernel.threads (F := Bits)) ⟨m, fun _ => 0, g⟩ (Rows.Ends (F := Bits) m) :=
  Rows.run_main (F := Bits) m g (ok_kernel h)

/-- The kernel's frame. -/
theorem frame_kernel : Cert.quiescent_Kernel := fun m g h =>
  (θ_run Cert.Kernel.defs _ _).mono (fun _ e => ⟨fun c => ⟨(e.1 c).1, (e.1 c).2.1⟩, e.2⟩) (run_kernel m g h)

/-- The idealized kernel's frame. -/
theorem frame_ideal : Cert.quiescent_KernelIdeal := fun m g h =>
  (θ_run Cert.KernelIdeal.defs _ _).mono (fun _ e => ⟨fun c => ⟨(e.1 c).1, (e.1 c).2.1⟩, e.2⟩)
    (Rows.run_main (F := Ideal) m g (ok_ideal h))

/-! ## The reference's run -/

/-- The idealized reference ends with its arguments unchanged; it has no counter. -/
theorem ends_refIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r e => ⟨fun c => (e c).2, sem_eq_zero_of_no_sems rfl r.2⟩)
    (Cert.ReferenceIdeal.Value.run (F := Ideal) m g)

/-- The idealized reference's frame. -/
theorem frame_refIdeal : Cert.quiescent_ReferenceIdeal := fun m g _ => ends_refIdeal m g

/-- The idealized reference's frame from arguments in range. -/
theorem frame_refIdeal_pre : Cert.quiescent_ReferenceIdeal_pre_in_range := fun m g _ => ends_refIdeal m g

/-- The reference's frame. -/
theorem frame_ref : Cert.quiescent_Reference := fun m g _ =>
  (θ_run Cert.Reference.defs _ _).mono (fun r e => ⟨fun c => (e c).2, sem_eq_zero_of_no_sems rfl r.2⟩)
    (Cert.Reference.Value.run (F := Bits) m g)

/-- The idealized reference's result: the rows looked up. -/
theorem value_refIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v2)
          = Look.looked (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  Cert.ReferenceIdeal.Value.run (F := Ideal) m g

/-- The reference's result: the rows looked up. -/
theorem value_ref (m : (ℓ : Loc Cert.Reference.nD Cert.Reference.τ Cert.Reference.sig) → Buf (Elt Bits) ℓ)
    (g : Dev Cert.Reference.nD → PrngReg) :
    θ_run (Cert.Reference.defs (F := Bits)) (onTc (τ := Cert.Reference.τ) (Cert.Reference.main (F := Bits))) ⟨m, fun _ => 0, g⟩
      (fun r => ∀ c : Dev Cert.Reference.nD,
        r.2.mem ((c.tc : Thread Cert.Reference.nD Cert.Reference.τ).loc Cert.Reference.main_v2)
          = Look.looked (F := Bits) (m ((c.tc : Thread Cert.Reference.nD Cert.Reference.τ).loc Cert.Reference.main_arg0))
              (m ((c.tc : Thread Cert.Reference.nD Cert.Reference.τ).loc Cert.Reference.main_arg1))
        ∧ r.2.mem ((c.tc : Thread Cert.Reference.nD Cert.Reference.τ).loc Cert.Reference.main_arg0) = m ((c.tc : Thread Cert.Reference.nD Cert.Reference.τ).loc Cert.Reference.main_arg0)
        ∧ r.2.mem ((c.tc : Thread Cert.Reference.nD Cert.Reference.τ).loc Cert.Reference.main_arg1) = m ((c.tc : Thread Cert.Reference.nD Cert.Reference.τ).loc Cert.Reference.main_arg1)) :=
  Cert.Reference.Value.run (F := Bits) m g

/-! ## The value claims -/

/-- Over the extended reals the kernel's result is the reference's. -/
theorem algebraic : Cert.algebraic_KernelIdeal_ReferenceIdeal := fun m g m' g' h hm =>
  ⟨fun c => Rows.V4 (F := Ideal) m c,
    (θ_run Cert.KernelIdeal.defs _ _).mono (fun _ e c => ⟨(e.1 c).2.2, (e.1 c).1, (e.1 c).2.1⟩)
      (Rows.run_main (F := Ideal) m g (ok_ideal h)),
    (θ_run Cert.ReferenceIdeal.defs _ _).mono
      (fun _ e c => ⟨((e c).1.trans (Look.looked_congr (F := Ideal) (hm c).1 (hm c).2)).trans
        (Rows.V4_eq (F := Ideal) m (ok_ideal h) c).symm, (e c).2⟩)
      (value_refIdeal m' g')⟩

/-- Over words the kernel's result is the reference's, bit for bit. -/
theorem bitexact : Cert.bitexact_Kernel_Reference := fun m g m' g' h hm =>
  ⟨fun c => Rows.V4 (F := Bits) m c,
    (θ_run Cert.Kernel.defs _ _).mono (fun _ e c => ⟨(e.1 c).2.2, (e.1 c).1, (e.1 c).2.1⟩) (run_kernel m g h),
    (θ_run Cert.Reference.defs _ _).mono
      (fun _ e c => ⟨((e c).1.trans (Look.looked_congr (F := Bits) (hm c).1 (hm c).2)).trans
        (Rows.V4_eq (F := Bits) m (ok_kernel h) c).symm, (e c).2⟩)
      (value_ref m' g')⟩

/-- Every claim. -/
theorem claim : Cert.Claim :=
  ⟨Cert.Kernel.Gen.facts, Cert.KernelIdeal.Gen.facts, Cert.ReferenceIdeal.Gen.facts, Cert.Reference.Gen.facts, Cert.Pre_in_range.Gen.facts,
    frame_kernel, frame_ideal, frame_refIdeal, frame_refIdeal_pre, frame_ref, trivial, algebraic, bitexact⟩

end Cert.Proof

end
